-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))).1 = (fun _ => 1#1)
    ∧ (Cert.Pre_separated.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))).1 = (fun _ => 1#1)
    ∧ (Cert.Pre_separated.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096x4096 : Shape := ⟨2, ![4096, 4096]⟩
abbrev S1x4096x4096 : Shape := ⟨3, ![1, 4096, 4096]⟩

class Facts : Prop where
  bcast_S_S8x4096x3 : S_.BroadcastsInDim S8x4096x3 (![] : Fin 0 → Fin S8x4096x3.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  dot_S8x4096x3_S8x4096x3_S8x4096x4096_2_2_1_1_0_0_wf : DotDims.WF S8x4096x3 S8x4096x3 S8x4096x4096 [2] [2] [1] [1] [0] [0]

variable [Facts]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf
def fn_part1 {F : FTy → Type} [FloatOps F] (main_v2 : IVec S8x4096x3 1) (main_v15 : IVec S8x4096x4096 1) (main_v16 : IVec S4096x4096 32) (main_v17 : IVec S4096x4096 32) (main_v18 : IVec S4096x4096 32) : IVec S8x4096x3 1 × IVec S8x4096x4096 1 :=
  let main_v19 : IVec S4096x4096 32 := addi main_v16 main_v18
  let main_v20 : IVec S4096x4096 1 := cmpi .eq main_v19 main_v17
  let main_v21 : IVec S1x4096x4096 1 := broadcastInDim S1x4096x4096 ![1, 2] bcast_S4096x4096_S1x4096x4096_1_2 main_v20
  let main_v22 : IVec S8x4096x4096 1 := broadcastInDim S8x4096x4096 ![0, 1, 2] bcast_S1x4096x4096_S8x4096x4096_0_1_2 main_v21
  let main_v23 : IVec S8x4096x4096 1 := ori main_v15 main_v22
  (main_v2, main_v23)

def fn {F : FTy → Type} [FloatOps F] (main_arg0 : FVec F S8x4096x3 .f32) : IVec S8x4096x3 1 × IVec S8x4096x4096 1 :=
  let main_v0 : FVec F S8x4096x3 .f32 := Host.absf main_arg0
  let main_cst : FVec F S_ .f32 := constant S_ .f32 0x461C4000#32
  let main_v1 : FVec F S8x4096x3 .f32 := broadcastInDim S8x4096x3 ![] bcast_S_S8x4096x3 main_cst
  let main_v2 : IVec S8x4096x3 1 := cmpf .ole main_v0 main_v1
  let main_v3 : FVec F S8x4096x3 .f32 := mulf main_arg0 main_arg0
  let main_cst_0 : FVec F S_ .f32 := constant S_ .f32 0x00000000#32
  let main_v4 : FVec F S8x4096 .f32 := (fun x v => Host.reduceAdd x v reducesTo_S8x4096x3_S8x4096_d2 h_S_) main_v3 main_cst_0
  let main_v5 : FVec F S8x4096x1 .f32 := broadcastInDim S8x4096x1 ![0, 1] bcast_S8x4096_S8x4096x1_0_1 main_v4
  let main_v6 : FVec F S8x1x4096 .f32 := broadcastInDim S8x1x4096 ![0, 2] bcast_S8x4096_S8x1x4096_0_2 main_v4
  let main_v7 : FVec F S8x4096x4096 .f32 := broadcastInDim S8x4096x4096 ![0, 1, 2] bcast_S8x4096x1_S8x4096x4096_0_1_2 main_v5
  let main_v8 : FVec F S8x4096x4096 .f32 := broadcastInDim S8x4096x4096 ![0, 1, 2] bcast_S8x1x4096_S8x4096x4096_0_1_2 main_v6
  let main_v9 : FVec F S8x4096x4096 .f32 := addf main_v7 main_v8
  let main_v10 : FVec F S8x4096x4096 .f32 := (fun l r => Host.dotGeneral dot_S8x4096x3_S8x4096x3_S8x4096x4096_2_2_1_1_0_0 none l r) main_arg0 main_arg0
  let main_cst_1 : FVec F S_ .f32 := constant S_ .f32 0x40000000#32
  let main_v11 : FVec F S8x4096x4096 .f32 := broadcastInDim S8x4096x4096 ![] bcast_S_S8x4096x4096 main_cst_1
  let main_v12 : FVec F S8x4096x4096 .f32 := mulf main_v11 main_v10
  let main_v13 : FVec F S8x4096x4096 .f32 := subf main_v9 main_v12
  let main_cst_2 : FVec F S_ .f32 := constant S_ .f32 0x2B8CBCCC#32
  let main_v14 : FVec F S8x4096x4096 .f32 := broadcastInDim S8x4096x4096 ![] bcast_S_S8x4096x4096 main_cst_2
  let main_v15 : IVec S8x4096x4096 1 := cmpf .oge main_v13 main_v14
  let main_v16 : IVec S4096x4096 32 := iotaInDim S4096x4096 32 0
  let main_v17 : IVec S4096x4096 32 := iotaInDim S4096x4096 32 1
  let main_c : IVec S_ 32 := constantI S_ 32 0#32
  let main_v18 : IVec S4096x4096 32 := broadcastInDim S4096x4096 ![] bcast_S_S4096x4096 main_c
  fn_part1 (F := F) main_v2 main_v15 main_v16 main_v17 main_v18
-- ==== Kernel.lean ====
abbrev S8x4096x3 : Shape := ⟨3, ![8, 4096, 3]⟩
abbrev S8x3x4096 : Shape := ⟨3, ![8, 3, 4096]⟩
abbrev S8x4096x32 : Shape := ⟨3, ![8, 4096, 32]⟩
abbrev S1x256x3 : Shape := ⟨3, ![1, 256, 3]⟩
abbrev S1x3x4096 : Shape := ⟨3, ![1, 3, 4096]⟩
abbrev S1x256x32 : Shape := ⟨3, ![1, 256, 32]⟩
abbrev S256x3 : Shape := ⟨2, ![256, 3]⟩
abbrev S3x4096 : Shape := ⟨2, ![3, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S4096x2 : Shape := ⟨2, ![4096, 2]⟩
abbrev S256x2 : Shape := ⟨2, ![256, 2]⟩
abbrev S1x256x1 : Shape := ⟨3, ![1, 256, 1]⟩
abbrev S1 : Shape := ⟨1, ![1]⟩
abbrev S1x1x1 : Shape := ⟨3, ![1, 1, 1]⟩
abbrev S256x21 : Shape := ⟨2, ![256, 21]⟩
abbrev S256x20 : Shape := ⟨2, ![256, 20]⟩
abbrev S256x11 : Shape := ⟨2, ![256, 11]⟩
abbrev S256x32 : Shape := ⟨2, ![256, 32]⟩
abbrev S256x12 : Shape := ⟨2, ![256, 12]⟩
abbrev S8x4096x20 : Shape := ⟨3, ![8, 4096, 20]⟩
abbrev S8x81920 : Shape := ⟨2, ![8, 81920]⟩
abbrev S8x4096x1 : Shape := ⟨3, ![8, 4096, 1]⟩
abbrev S8x4096 : Shape := ⟨2, ![8, 4096]⟩
abbrev S1x4096x1 : Shape := ⟨3, ![1, 4096, 1]⟩
abbrev S8x1x81920 : Shape := ⟨3, ![8, 1, 81920]⟩
abbrev S8x2x81920 : Shape := ⟨3, ![8, 2, 81920]⟩

abbrev nBuf : Space → Nat
  | .hbm => 17
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x3x4096, .f32⟩
  | .hbm, ⟨2, _⟩ => ⟨S8x4096x32, .f32⟩
  | .hbm, ⟨3, _⟩ => ⟨S8x4096x32, .i32⟩
  | .hbm, ⟨4, _⟩ => ⟨S8x4096x20, .f32⟩
  | .hbm, ⟨5, _⟩ => ⟨S8x81920, .f32⟩
  | .hbm, ⟨6, _⟩ => ⟨S8x4096x1, .f32⟩
  | .hbm, ⟨7, _⟩ => ⟨S8x4096, .f32⟩
  | .hbm, ⟨8, _⟩ => ⟨S8x4096x20, .i32⟩
  | .hbm, ⟨9, _⟩ => ⟨S8x81920, .i32⟩
  | .hbm, ⟨10, _⟩ => ⟨S4096, .i32⟩
  | .hbm, ⟨11, _⟩ => ⟨S1x4096x1, .i32⟩
  | .hbm, ⟨12, _⟩ => ⟨S8x4096x20, .i32⟩
  | .hbm, ⟨13, _⟩ => ⟨S8x81920, .i32⟩
  | .hbm, ⟨14, _⟩ => ⟨S8x1x81920, .i32⟩
  | .hbm, ⟨15, _⟩ => ⟨S8x1x81920, .i32⟩
  | .hbm, ⟨16, _⟩ => ⟨S8x2x81920, .i32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x256x32, .f32⟩
  | .local _ .vmem, ⟨5, _⟩ => ⟨S1x256x32, .f32⟩
  | .local _ .vmem, ⟨6, _⟩ => ⟨S1x256x32, .i32⟩
  | .local _ .vmem, ⟨7, _⟩ => ⟨S1x256x32, .i32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S4096x4096 : Shape := ⟨2, ![4096, 4096]⟩
abbrev S1x4096x4096 : Shape := ⟨3, ![1, 4096, 4096]⟩
abbrev S8x4096x20 : Shape := ⟨3, ![8, 4096, 20]⟩
abbrev S8x81920 : Shape := ⟨2, ![8, 81920]⟩
abbrev S4096 : Shape := ⟨1, ![4096]⟩
abbrev S1x4096x1 : Shape := ⟨3, ![1, 4096, 1]⟩
abbrev S8x1x81920 : Shape := ⟨3, ![8, 1, 81920]⟩
abbrev S8x2x81920 : Shape := ⟨3, ![8, 2, 81920]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S_, .f32⟩
  | .hbm, ⟨3, _⟩ => ⟨S8x4096, .f32⟩
  | .hbm, ⟨4, _⟩ => ⟨S8x4096x1, .f32⟩
  | .hbm, ⟨5, _⟩ => ⟨S8x1x4096, .f32⟩
  | .hbm, ⟨6, _⟩ => ⟨S8x4096x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S1x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x20, .f32⟩
  | .hbm, ⟨32, _⟩ => ⟨S8x4096x20, .i32⟩
  | .hbm, ⟨33, _⟩ => ⟨S8x4096x20, .f32⟩
  | .hbm, ⟨34, _⟩ => ⟨S_, .f32⟩
  | .hbm, ⟨35, _⟩ => ⟨S8x4096x20, .f32⟩
  | .hbm, ⟨36, _⟩ => ⟨S8x4096x20, .f32⟩
  | .hbm, ⟨37, _⟩ => ⟨S8x4096x20, .f32⟩
  | .hbm, ⟨38, _⟩ => ⟨S8x4096x1, .f32⟩
  | .hbm, ⟨39, _⟩ => ⟨S8x4096, .f32⟩
  | .hbm, ⟨40, _⟩ => ⟨S_, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S8x4096, .f32⟩
  | .hbm, ⟨50, _⟩ => ⟨S8x4096x20, .f32⟩
  | .hbm, ⟨51, _⟩ => ⟨S8x4096x20, .f32⟩
  | .hbm, ⟨52, _⟩ => ⟨S8x4096x1, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S8x4096x20, .f32⟩
  | .hbm, ⟨58, _⟩ => ⟨S8x4096x20, .f32⟩
  | .hbm, ⟨59, _⟩ => ⟨S8x4096x20, .f32⟩
  | .hbm, ⟨60, _⟩ => ⟨S8x81920, .f32⟩
  | .hbm, ⟨61, _⟩ => ⟨S4096, .i32⟩
  | .hbm, ⟨62, _⟩ => ⟨S1x4096x1, .i32⟩
  | .hbm, ⟨63, _⟩ => ⟨S8x4096x20, .i32⟩
  | .hbm, ⟨64, _⟩ => ⟨S8x81920, .i32⟩
  | .hbm, ⟨65, _⟩ => ⟨S8x81920, .i32⟩
  | .hbm, ⟨66, _⟩ => ⟨S8x1x81920, .i32⟩
  | .hbm, ⟨67, _⟩ => ⟨S8x1x81920, .i32⟩
  | .hbm, ⟨68, _⟩ => ⟨S8x2x81920, .i32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_values : Ref sig .tc := ⟨.hbm, 31, rfl⟩
abbrev main_indices : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== Proof.Rounds.lean ====
/-
  THE TWENTY-ONE ROUNDS OF THE BODY, FOLDED INTO ONE. The body takes, twenty-one times over, the least entry of every row of a
  table (`least`), the column at which it stands (`place`), and the table with that entry replaced by the largest float
  (`struck`). A conditional decides how: where some row holds its least entry more than once (`tied`), the column is the least
  of the columns at which it stands; elsewhere it is the sum of them, since there is one only. `table d k` is the table `d`
  after `k` rounds. The printed body runs in twelve parts; each of the parts 2 to 12 returns values and nothing else, and they
  are stated here over these names (`part2_eq` to `part12_eq`).
-/
module

public import proofs.«01_k».proof.Proof.Gen.KernelIdeal.Skeleton

@[expose] public section

set_option maxRecDepth 16384

noncomputable section

namespace Cert.Rounds

open Idealize.ShloMosaic Idealize.SL.Sem Cert.KernelIdeal Cert.KernelIdeal.Gen

variable {F : FTy → Type} [FloatOps F]

/-- The least entry of every row, as a column. -/
def least (v : FVec F S256x4096 .f32) : FVec F S256x1 .f32 :=
  shapeCast S256x1 (multiReduction .minimumf [1] S256 v 0x7F800000#32 reduces_S256x4096_S256 (.inl rfl) rfl) shapeCasts_S256_S256x1

/-- The columns that a row's least entry stands at. -/
def atLeast (v : FVec F S256x4096 .f32) : IVec S256x4096 1 :=
  cmpf .oeq v (broadcastTo S256x4096 (least v) broadcasts_S256x1_S256x4096)

/-- The same, as ones among zeros. -/
def ones (v : FVec F S256x4096 .f32) : FVec F S256x4096 .f32 := sitofp .f32 (extui 32 (atLeast v) natLt_1_32)

/-- For every row, the sum of those columns and the count of them: a product with the table of (column, 1). -/
def sums (v : FVec F S256x4096 .f32) : FVec F S256x2 .f32 :=
  matmul dot_S256x4096_S4096x2_S256x2_1_0_0_1_n_n (some .fp32) (ones v) (k0_pay4 (F := F)) (constant S256x2 .f32 0x00000000#32)

/-- The sums of the columns. -/
def columnSum (v : FVec F S256x4096 .f32) : FVec F S256x1 .f32 :=
  extractStridedSlice S256x1 ![0, 0] (sums v) slices_S256x2_o0_0_S256x1

/-- The counts of the columns. -/
def counts (v : FVec F S256x4096 .f32) : FVec F S256x1 .f32 :=
  extractStridedSlice S256x1 ![0, 1] (sums v) slices_S256x2_o0_1_S256x1

/-- The rows that count more than one column. -/
def several (v : FVec F S256x4096 .f32) : IVec S256x1 1 := cmpf .ogt (counts v) (k0_pay68 (F := F))

/-- The same, as ones among zeros. -/
def marks (v : FVec F S256x4096 .f32) : FVec F S256x1 .f32 :=
  select (several v) (broadcast S256x1 (Scalar.ofBits .f32 0x3F800000#32)) (broadcast S256x1 (Scalar.ofBits .f32 0x00000000#32))

/-- The greatest of the marks. -/
def mark (v : FVec F S256x4096 .f32) : F .f32 :=
  extractAt ![0, 0, 0]
    (shapeCast S1x1x1
      (multiReduction .maximumf [1, 2] S1 (shapeCast S1x256x1 (marks v) shapeCasts_S256x1_S1x256x1) 0xFF800000#32 reduces_S1x256x1_S1 (.inl rfl) rfl)
      shapeCasts_S1_S1x1x1) inpos_S1x1x1_p0_0_0

/-- Whether some row is marked: the word that the conditional is on. -/
def tied (v : FVec F S256x4096 .f32) : BitVec 1 :=
  Scalar.cmpi .ne (Scalar.extui (Scalar.cmpf .ogt (mark v) (Scalar.ofBits .f32 0x00000000#32)) : BitVec 32) 0#32

/-- The first of the columns, as a word: 4096 stands in for every other column. -/
def firstWord (v : FVec F S256x4096 .f32) : IVec S256x1 32 :=
  shapeCast S256x1
    (multiReductionI .minsi [1] S256 (select (atLeast v) (iota .tc S256x4096 32 [1] iota_S256x4096_d1_w32) (broadcast S256x4096 4096#32))
      2147483647#32 reduces_S256x4096_S256 rfl) shapeCasts_S256_S256x1

/-- A table of the largest float. -/
abbrev farTable : FVec F S256x4096 .f32 := broadcast S256x4096 (Scalar.ofBits .f32 0x7F800000#32)

/-- The table with the first of the columns struck. -/
def firstStruck (v : FVec F S256x4096 .f32) : FVec F S256x4096 .f32 :=
  select (cmpi .eq (iota .tc S256x4096 32 [1] iota_S256x4096_d1_w32) (broadcastTo S256x4096 (firstWord v) broadcasts_S256x1_S256x4096))
    (farTable (F := F)) v

/-- The table with all of the columns struck. -/
def allStruck (v : FVec F S256x4096 .f32) : FVec F S256x4096 .f32 := select (atLeast v) (farTable (F := F)) v

/-- The column that a round takes, in either branch of the conditional. -/
def place (v : FVec F S256x4096 .f32) : FVec F S256x1 .f32 :=
  if tied v = 1#1 then sitofp .f32 (firstWord v) else columnSum v

/-- The table that a round leaves, in either branch of the conditional. -/
def struck (v : FVec F S256x4096 .f32) : FVec F S256x4096 .f32 :=
  if tied v = 1#1 then firstStruck v else allStruck v

/-- The table after `k` rounds. -/
def table (d : FVec F S256x4096 .f32) : ℕ → FVec F S256x4096 .f32
  | 0 => d
  | k + 1 => struck (table d k)

theorem table_succ (d : FVec F S256x4096 .f32) (k : ℕ) : table d (k + 1) = struck (table d k) := rfl

/-! ## The conditional of two values is the value of a conditional -/

section
variable {E : Type → Type} {A B : Type}

theorem pure_if (c : Prop) [Decidable c] (a a' : A) :
    (if c then (pure a : Prog E A) else pure a') = pure (if c then a else a') := by
  split <;> rfl

end

/-- What one round leaves in either branch is what its column and its table leave. -/
theorem round_eq {C : Type} (R : FVec F S256x1 .f32 → FVec F S256x4096 .f32 → C) (v : FVec F S256x4096 .f32) :
    (if tied v = 1#1 then R (sitofp .f32 (firstWord v)) (firstStruck v) else R (columnSum v) (allStruck v)) = R (place v) (struck v) := by
  unfold place struck
  split <;> rfl

/-- The same of two rounds, one after the other. -/
theorem rounds_eq {C : Type} (R : FVec F S256x1 .f32 → FVec F S256x4096 .f32 → FVec F S256x1 .f32 → FVec F S256x4096 .f32 → C)
    (v : FVec F S256x4096 .f32) :
    (if tied v = 1#1 then
        if tied (firstStruck v) = 1#1 then
          R (sitofp .f32 (firstWord v)) (firstStruck v) (sitofp .f32 (firstWord (firstStruck v))) (firstStruck (firstStruck v))
        else R (sitofp .f32 (firstWord v)) (firstStruck v) (columnSum (firstStruck v)) (allStruck (firstStruck v))
      else
        if tied (allStruck v) = 1#1 then
          R (columnSum v) (allStruck v) (sitofp .f32 (firstWord (allStruck v))) (firstStruck (allStruck v))
        else R (columnSum v) (allStruck v) (columnSum (allStruck v)) (allStruck (allStruck v)))
      = R (place v) (struck v) (place (struck v)) (struck (struck v)) :=
  Eq.trans
    (congrArg₂ (fun a b => if tied v = 1#1 then a else b) (round_eq (R (sitofp .f32 (firstWord v)) (firstStruck v)) (firstStruck v))
      (round_eq (R (columnSum v) (allStruck v)) (allStruck v)))
    (round_eq (fun p s => R p s (place s) (struck s)) v)

/-- `round_eq`, from the two values that a branch gives to the value that is claimed. -/
theorem round_to {C : Type} {x y : C} (v : FVec F S256x4096 .f32) (R : FVec F S256x1 .f32 → FVec F S256x4096 .f32 → C)
    (hx : (if tied v = 1#1 then R (sitofp .f32 (firstWord v)) (firstStruck v) else R (columnSum v) (allStruck v)) = x)
    (hy : R (place v) (struck v) = y) : x = y :=
  hx.symm.trans ((round_eq R v).trans hy)

/-- `rounds_eq` in the same form. -/
theorem rounds_to {C : Type} {x y : C} (v : FVec F S256x4096 .f32)
    (R : FVec F S256x1 .f32 → FVec F S256x4096 .f32 → FVec F S256x1 .f32 → FVec F S256x4096 .f32 → C)
    (hx : (if tied v = 1#1 then
        if tied (firstStruck v) = 1#1 then
          R (sitofp .f32 (firstWord v)) (firstStruck v) (sitofp .f32 (firstWord (firstStruck v))) (firstStruck (firstStruck v))
        else R (sitofp .f32 (firstWord v)) (firstStruck v) (columnSum (firstStruck v)) (allStruck (firstStruck v))
      else
        if tied (allStruck v) = 1#1 then
          R (columnSum v) (allStruck v) (sitofp .f32 (firstWord (allStruck v))) (firstStruck (allStruck v))
        else R (columnSum v) (allStruck v) (columnSum (allStruck v)) (allStruck (allStruck v))) = x)
    (hy : R (place v) (struck v) (place (struck v)) (struck (struck v)) = y) : x = y :=
  hx.symm.trans ((rounds_eq R v).trans hy)

/-! ## The parts of the body -/

section

variable (i : grid0.Coords) (arg2 : Memref sig .tc .vmem S1x256x3 .f32) (harg2 : arg2.IsWhole)
  (arg3 : Memref sig .tc .vmem S1x3x4096 .f32) (harg3 : arg3.IsWhole) (arg4 : Memref sig .tc .vmem S1x256x32 .f32)
  (harg4 : arg4.IsWhole) (arg5 : Memref sig .tc .vmem S1x256x32 .i32) (harg5 : arg5.IsWhole)
  (v : FVec F S256x4096 .f32)

theorem part2_eq :
    k0_part2 i arg2 harg2 arg3 harg3 arg4 harg4 arg5 harg5 v (k0_pay4 (F := F)) (atLeast v) (columnSum v) (marks v)
      = pure ⟨place v, least (struck v), place (struck v), struck (struck v), least (struck (struck v)), atLeast (struck (struck v)), columnSum (struck (struck v)), several (struck (struck v)), Scalar.ofBits .f32 0x00000000#32, k0_pay29 (F := F)⟩ := by
  simp only [k0_part2_eq_skeleton, k0_part2_skel, pure_if, pure_bind]
  exact congrArg pure (rounds_to v (fun p s q t => ⟨p, least s, q, t, least t, atLeast t, columnSum t, several t, Scalar.ofBits .f32 0x00000000#32, k0_pay29 (F := F)⟩) rfl rfl)

theorem part3_eq :
    k0_part3 i arg2 harg2 arg3 harg3 arg4 harg4 arg5 harg5 (k0_pay4 (F := F)) v (atLeast v) (columnSum v) (several v) (Scalar.ofBits .f32 0x00000000#32) (k0_pay29 (F := F))
      = pure ⟨place v, least (struck v), place (struck v), struck (struck v), least (struck (struck v)), atLeast (struck (struck v)), columnSum (struck (struck v)), several (struck (struck v)), Scalar.ofBits .f32 0x3F800000#32⟩ := by
  simp only [k0_part3_eq_skeleton, k0_part3_skel, pure_if, pure_bind]
  exact congrArg pure (rounds_to v (fun p s q t => ⟨p, least s, q, t, least t, atLeast t, columnSum t, several t, Scalar.ofBits .f32 0x3F800000#32⟩) rfl rfl)

theorem part4_eq :
    k0_part4 i arg2 harg2 arg3 harg3 arg4 harg4 arg5 harg5 (k0_pay4 (F := F)) v (atLeast v) (columnSum v) (several v) (Scalar.ofBits .f32 0x3F800000#32)
      = pure ⟨place v, least (struck v), place (struck v), struck (struck v), least (struck (struck v)), atLeast (struck (struck v)), columnSum (struck (struck v)), counts (struck (struck v)), k0_pay68 (F := F)⟩ := by
  simp only [k0_part4_eq_skeleton, k0_part4_skel, pure_if, pure_bind]
  exact congrArg pure (rounds_to v (fun p s q t => ⟨p, least s, q, t, least t, atLeast t, columnSum t, counts t, k0_pay68 (F := F)⟩) rfl rfl)

theorem part5_eq :
    k0_part5 i arg2 harg2 arg3 harg3 arg4 harg4 arg5 harg5 (k0_pay4 (F := F)) v (atLeast v) (columnSum v) (counts v) (k0_pay68 (F := F))
      = pure ⟨place v, least (struck v), place (struck v), struck (struck v), least (struck (struck v)), atLeast (struck (struck v)), columnSum (struck (struck v)), counts (struck (struck v))⟩ := by
  simp only [k0_part5_eq_skeleton, k0_part5_skel, pure_if, pure_bind]
  exact congrArg pure (rounds_to v (fun p s q t => ⟨p, least s, q, t, least t, atLeast t, columnSum t, counts t⟩) rfl rfl)

theorem part6_eq :
    k0_part6 i arg2 harg2 arg3 harg3 arg4 harg4 arg5 harg5 (k0_pay4 (F := F)) v (atLeast v) (columnSum v) (counts v)
      = pure ⟨place v, least (struck v), place (struck v), struck (struck v), least (struck (struck v)), atLeast (struck (struck v)), sums (struck (struck v))⟩ := by
  simp only [k0_part6_eq_skeleton, k0_part6_skel, pure_if, pure_bind]
  exact congrArg pure (rounds_to v (fun p s q t => ⟨p, least s, q, t, least t, atLeast t, sums t⟩) rfl rfl)

theorem part7_eq :
    k0_part7 i arg2 harg2 arg3 harg3 arg4 harg4 arg5 harg5 (k0_pay4 (F := F)) v (atLeast v) (sums v)
      = pure ⟨place v, least (struck v), place (struck v), struck (struck v), least (struck (struck v)), atLeast (struck (struck v)), ones (struck (struck v))⟩ := by
  simp only [k0_part7_eq_skeleton, k0_part7_skel, pure_if, pure_bind]
  exact congrArg pure (rounds_to v (fun p s q t => ⟨p, least s, q, t, least t, atLeast t, ones t⟩) rfl rfl)

theorem part8_eq :
    k0_part8 i arg2 harg2 arg3 harg3 arg4 harg4 arg5 harg5 (k0_pay4 (F := F)) v (atLeast v) (ones v)
      = pure ⟨place v, least (struck v), place (struck v), struck (struck v), least (struck (struck v)), atLeast (struck (struck v))⟩ := by
  simp only [k0_part8_eq_skeleton, k0_part8_skel, pure_if, pure_bind]
  exact congrArg pure (rounds_to v (fun p s q t => ⟨p, least s, q, t, least t, atLeast t⟩) rfl rfl)

theorem part9_eq :
    k0_part9 i arg2 harg2 arg3 harg3 arg4 harg4 arg5 harg5 (k0_pay4 (F := F)) v (atLeast v)
      = pure ⟨place v, least (struck v), place (struck v), struck (struck v), least (struck (struck v))⟩ := by
  simp only [k0_part9_eq_skeleton, k0_part9_skel, pure_if, pure_bind]
  exact congrArg pure (rounds_to v (fun p s q t => ⟨p, least s, q, t, least t⟩) rfl rfl)

theorem part10_eq :
    k0_part10 i arg2 harg2 arg3 harg3 arg4 harg4 arg5 harg5 (k0_pay4 (F := F)) v (least v)
      = pure ⟨place v, least (struck v), place (struck v), struck (struck v)⟩ := by
  simp only [k0_part10_eq_skeleton, k0_part10_skel, pure_if, pure_bind]
  exact congrArg pure (rounds_to v (fun p s q t => ⟨p, least s, q, t⟩) rfl rfl)

theorem part11_eq :
    k0_part11 i arg2 harg2 arg3 harg3 arg4 harg4 arg5 harg5 (k0_pay4 (F := F)) v
      = pure ⟨least v, place v, struck v, least (struck v), atLeast (struck v), columnSum (struck v), Scalar.ofBits .f32 0x7F800000#32, tied (struck v)⟩ := by
  simp only [k0_part11_eq_skeleton, k0_part11_skel, pure_if, pure_bind]
  exact congrArg pure (round_to v (fun p s => ⟨least v, p, s, least s, atLeast s, columnSum s, Scalar.ofBits .f32 0x7F800000#32, tied s⟩) rfl rfl)

theorem part12_eq (l0 l1 l2 l3 l4 l5 l6 l7 l8 l9 l10 l11 l12 l13 l14 l15 l16 l17 l18 l19
    p0 p1 p2 p3 p4 p5 p6 p7 p8 p9 p10 p11 p12 p13 p14 p15 p16 p17 p18 : FVec F S256x1 .f32) :
    k0_part12 i arg2 harg2 arg3 harg3 arg4 harg4 arg5 harg5 (k0_pay4 (F := F))
        l0 p0 l1 p1 l2 p2 l3 p3 l4 p4 l5 p5 l6 p6 l7 p7 l8 p8 l9 p9 l10 p10 l11 p11 l12 p12 l13 p13 l14 p14 l15 p15 l16 p16 l17 p17 l18 p18 v l19 (atLeast v) (columnSum v) (Scalar.ofBits .f32 0x7F800000#32) (tied v)
      = pure ⟨k0_pay199 p0 p1 p2 p3 p4 p5 p6 p7 p8 p9 p10 p11 p12 p13 p14 p15 p16 p17 p18 (place v) (place (struck v)),
          k0_pay202 l0 l1 l2 l3 l4 l5 l6 l7 l8 l9 l10 l11 l12 l13 l14 l15 l16 l17 l18 l19 (struck v), k0_pay203 l0 l1 l2 l3 l4 l5 l6 l7 l8 l9 l10 l11 l12 l13 l14 l15 l16 l17 l18 l19 (struck v)⟩ := by
  simp only [k0_part12_eq_skeleton, k0_part12_skel, pure_if, pure_bind]
  exact congrArg pure (rounds_to v (fun p s q _ => ⟨k0_pay199 p0 p1 p2 p3 p4 p5 p6 p7 p8 p9 p10 p11 p12 p13 p14 p15 p16 p17 p18 p q, k0_pay202 l0 l1 l2 l3 l4 l5 l6 l7 l8 l9 l10 l11 l12 l13 l14 l15 l16 l17 l18 l19 s, k0_pay203 l0 l1 l2 l3 l4 l5 l6 l7 l8 l9 l10 l11 l12 l13 l14 l15 l16 l17 l18 l19 s⟩) rfl rfl)

end

/-! ## The body as a whole -/

/-- The twenty-one columns `f 0`, …, `f 20` side by side. -/
def beside (f : ℕ → FVec F S256x1 .f32) : FVec F S256x21 .f32 :=
  concatenate S256x21 1
    [⟨S256x1, f 0⟩, ⟨S256x1, f 1⟩, ⟨S256x1, f 2⟩, ⟨S256x1, f 3⟩, ⟨S256x1, f 4⟩, ⟨S256x1, f 5⟩, ⟨S256x1, f 6⟩, ⟨S256x1, f 7⟩,
    ⟨S256x1, f 8⟩, ⟨S256x1, f 9⟩, ⟨S256x1, f 10⟩, ⟨S256x1, f 11⟩, ⟨S256x1, f 12⟩, ⟨S256x1, f 13⟩, ⟨S256x1, f 14⟩,
    ⟨S256x1, f 15⟩, ⟨S256x1, f 16⟩, ⟨S256x1, f 17⟩, ⟨S256x1, f 18⟩, ⟨S256x1, f 19⟩, ⟨S256x1, f 20⟩]
    concatenates_S256x1_S256x1_S256x1_S256x1_S256x1_S256x1_S256x1_S256x1_S256x1_S256x1_S256x1_S256x1_S256x1_S256x1_S256x1_S256x1_S256x1_S256x1_S256x1_S256x1_S256x1_S256x21_d1

/-- The twenty-one columns that the rounds take, as words. -/
def numbers (d : FVec F S256x4096 .f32) : IVec S256x21 32 := fptosi 32 (beside fun k => place (table d k))

/-- The twenty-one least entries. -/
def leasts (d : FVec F S256x4096 .f32) : FVec F S256x21 .f32 := beside fun k => least (table d k)

/-- The distances to the twenty neighbours, from the least entries: the first of them is the point itself. -/
def gaps (x : FVec F S256x21 .f32) : FVec F S256x20 .f32 :=
  sqrt (maximumf (extractStridedSlice S256x20 ![0, 1] x slices_S256x21_o0_1_S256x20)
    (broadcast S256x20 (Scalar.ofBits .f32 0x2B8CBCCC#32)))

/-- The distance to the last of them. -/
def lastGap (x : FVec F S256x21 .f32) : FVec F S256x1 .f32 :=
  extractStridedSlice S256x1 ![0, 19] (gaps x) slices_S256x20_o0_19_S256x1

/-- A float in every row of a column. -/
abbrev inColumn (w : BitVec 32) : FVec F S256x1 .f32 := broadcast S256x1 (Scalar.ofBits .f32 w)

/-- The local scales. -/
def scale (x : FVec F S256x21 .f32) : FVec F S256x1 .f32 := mulf (mulf (inColumn 0x3F800000#32) (lastGap x)) (lastGap x)

/-- The widths of the Gaussians. -/
def width (x : FVec F S256x21 .f32) : FVec F S256x1 .f32 :=
  addf (mulf (inColumn 0x3F800000#32) (lastGap x)) (inColumn 0x358637BD#32)

/-- The exponents of the weights. -/
def exponent (x : FVec F S256x21 .f32) : FVec F S256x20 .f32 :=
  divf (subf (broadcast S256x20 (Scalar.ofBits .f32 0x00000000#32)) (mulf (gaps x) (gaps x)))
    (broadcastTo S256x20 (mulf (mulf (inColumn 0x40000000#32) (width x)) (width x)) broadcasts_S256x1_S256x20)

/-- The block of weights and scales, from the least entries. -/
def floatBlock (x : FVec F S256x21 .f32) : FVec F S1x256x32 .f32 := k0_pay1 (scale x) (exponent x)

section

variable (a : Vec F S1x256x3 .f32) (b : Vec F S1x3x4096 .f32)

theorem pay5_eq : k0_pay5 a b = least (k0_pay3 a b) := rfl
theorem pay6_eq : k0_pay6 a b = atLeast (k0_pay3 a b) := rfl
theorem pay8_eq : k0_pay8 a b = columnSum (k0_pay3 a b) := rfl
theorem pay9_eq : k0_pay9 a b = marks (k0_pay3 a b) := rfl

end

/-- The body: two loads, and two stores of what the rounds give. -/
theorem body_eq (i : grid0.Coords) (arg2 : Memref sig .tc .vmem S1x256x3 .f32) (harg2 : arg2.IsWhole)
    (arg3 : Memref sig .tc .vmem S1x3x4096 .f32) (harg3 : arg3.IsWhole) (arg4 : Memref sig .tc .vmem S1x256x32 .f32)
    (harg4 : arg4.IsWhole) (arg5 : Memref sig .tc .vmem S1x256x32 .i32) (harg5 : arg5.IsWhole) :
    cc0__knn_tile_kernel (F := F) i arg2 harg2 arg3 harg3 arg4 harg4 arg5 harg5 = (do
      let a : Vec F S1x256x3 .f32 ← Prog.lift (.load arg2 (Rect.unit (s := S1x256x3) ![0, 0, 0] S1x256x3.size inb_S1x256x3_S1x256x3_0_0_0).toLoadRect (View.loadsAt_vmem h_S1x256x3))
      let b : Vec F S1x3x4096 .f32 ← Prog.lift (.load arg3 (Rect.unit (s := S1x3x4096) ![0, 0, 0] S1x3x4096.size inb_S1x3x4096_S1x3x4096_0_0_0).toLoadRect (View.loadsAt_vmem h_S1x3x4096))
      let _ : Vec F S1x256x32 .f32 ← Prog.lift (.load arg4 (Rect.unit (s := S1x256x32) ![0, 0, 0] S1x256x32.size inb_S1x256x32_S1x256x32_0_0_0).toLoadRect (View.loadsAt_vmem h_S1x256x32))
      Prog.lift (.store arg4 (Rect.unit (s := S1x256x32) ![0, 0, 0] S1x256x32.size inb_S1x256x32_S1x256x32_0_0_0) (floatBlock (leasts (k0_pay3 a b))) Finset.univ (View.stores_vmem_bits_univ h_S1x256x32 rfl) (.inl rfl))
      let _ : Vec F S1x256x32 .i32 ← Prog.lift (.load arg5 (Rect.unit (s := S1x256x32) ![0, 0, 0] S1x256x32.size inb_S1x256x32_S1x256x32_0_0_0).toLoadRect (View.loadsAt_vmem h_S1x256x32))
      Prog.lift (.store arg5 (Rect.unit (s := S1x256x32) ![0, 0, 0] S1x256x32.size inb_S1x256x32_S1x256x32_0_0_0) (k0_pay2 (numbers (k0_pay3 a b))) Finset.univ (View.stores_vmem_bits_univ h_S1x256x32 rfl) (.inl rfl))
      pure ⟨⟩) := by
  simp only [cc0__knn_tile_kernel_eq_skeleton, cc0__knn_tile_kernel_skel, k0_part1_eq_skeleton, k0_part1_skel, bind_assoc, pure_bind,
    pay5_eq, pay6_eq, pay8_eq, pay9_eq, part2_eq, part3_eq, part4_eq, part5_eq, part6_eq, part7_eq, part8_eq, part9_eq, part10_eq,
    part11_eq, part12_eq]
  rfl

end Cert.Rounds

end
-- ==== Proof.Launch.lean ====
/-
  THE RUN, OVER ANY FLOAT VALUES: what the body leaves in the two blocks it stores, the launch over the whole grid from that,
  and the frame. The frame of the word-level program is this one at the words.
-/
module

public import proofs.«01_k».proof.Proof.Rounds
public import proofs.«01_k».proof.Proof.Gen.KernelIdeal.Frame
public import Idealize.ShloMosaic.Lib.Claim

@[expose] public section

set_option maxRecDepth 16384

noncomputable section

namespace Cert.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The whole of a block of points. -/
abbrev pointsRect : Rect S1x256x3 := Rect.unit (s := S1x256x3) ![0, 0, 0] S1x256x3.size inb_S1x256x3_S1x256x3_0_0_0
/-- The whole of a cloud. -/
abbrev cloudRect : Rect S1x3x4096 := Rect.unit (s := S1x3x4096) ![0, 0, 0] S1x3x4096.size inb_S1x3x4096_S1x3x4096_0_0_0
/-- The whole of a block that the body stores. -/
abbrev storedRect : Rect S1x256x32 := Rect.unit (s := S1x256x32) ![0, 0, 0] S1x256x32.size inb_S1x256x32_S1x256x32_0_0_0

/-- The table of squared distances, from the two blocks that the body loads. -/
def distanceTable (x0 : Vec F S1x256x3 .f32) (x1 : Vec F S1x3x4096 .f32) : FVec F S256x4096 .f32 :=
  k0_pay3 (View.ld x0 pointsRect) (View.ld x1 cloudRect)

/-- The block of floats: weights and scales. -/
def storedFloats (x0 : Vec F S1x256x3 .f32) (x1 : Vec F S1x3x4096 .f32) : Vec F S1x256x32 .f32 :=
  View.canon [⟨storedRect, floatBlock (leasts (distanceTable x0 x1))⟩]

/-- The block of words: the neighbours' numbers. -/
def storedWords (x0 : Vec F S1x256x3 .f32) (x1 : Vec F S1x3x4096 .f32) : Vec F S1x256x32 .i32 :=
  View.canon [⟨storedRect, k0_pay2 (numbers (distanceTable x0 x1))⟩]

/-- One store fills a block. -/
theorem stored_whole {e : EltTy} (p : Vec F S1x256x32 e) (y : S1x256x32.Idx) :
    ∃ pc ∈ ([⟨storedRect, p⟩] : List (View.Piece (Elt F) S1x256x32 e)), y ∈ pc.1.set :=
  View.cover_of_tiled [⟨storedRect, p⟩] S1x256x32.size (by rfl) y

set_option maxHeartbeats 2000000 in
/-- The body, on whole buffers: it leaves the blocks that it loads, and stores the two above. -/
theorem body_sound (c : Dev nD) (E : Set ℕ) (i : grid0.Coords) (arg2 : Memref sig .tc .vmem S1x256x3 .f32) (harg2 : arg2.IsWhole)
    (arg3 : Memref sig .tc .vmem S1x3x4096 .f32) (harg3 : arg3.IsWhole) (arg4 : Memref sig .tc .vmem S1x256x32 .f32)
    (harg4 : arg4.IsWhole) (arg5 : Memref sig .tc .vmem S1x256x32 .i32) (harg5 : arg5.IsWhole)
    (x0 : Vec F S1x256x3 .f32) (x1 : Vec F S1x3x4096 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (storedFloats x0 x1) ∗ owns (c : Thread nD τ) arg5 fullShare (storedWords x0 x1)) -∗ K ⟨⟩))
      ⊢ wp frame (wpE (defs₀ (F := F)) Variants.none c none) E (cc0__knn_tile_kernel i arg2 harg2 arg3 harg3 arg4 harg4 arg5 harg5) K := by
  rw [body_eq]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (stored_whole _)).trans rfl
  iexists _; isplitr
  swap; · iexact H3
  ipureintro
  exact (View.read_writes_eq_canon _ _ _ (stored_whole _)).trans rfl

/-! ## The launch -/

/-- The arrays as the launch finds them, and each window's buffer after the body at a point: a loaded block as it is, a
stored one as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => storedFloats (iblk m c 0 t) (iblk m c 1 t)
    | ⟨3, _⟩ => storedWords (iblk m c 0 t) (iblk m c 1 t)
  Φ _ := Pipeline.ΦA spec0 c
  q _ := fullShare
  owed _ := 0

theorem array_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = storedFloats (iblk m c 0 t) (iblk m c 1 t) := by
  dsimp only [dats]
theorem after3 (c : Dev nD) (t : Fin cfg0.N) : (dats m 0 c).after 3 t = storedWords (iblk m c 0 t) (iblk m c 1 t) := by
  dsimp only [dats]

/-- A loaded window's buffer holds its block before the body too. -/
theorem before0 (c : Dev nD) (t : Fin cfg0.N) (d) : (dats m 0 c).before 0 t d = iblk m c 0 t :=
  before0_0_of m (dats m 0 c) (array_eq m c 0) (after0 m c) t d
theorem before1 (c : Dev nD) (t : Fin cfg0.N) (d) : (dats m 0 c).before 1 t d = iblk m c 1 t :=
  before0_1_of m (dats m 0 c) (array_eq m c 1) (after1 m c) t d

/-- What the body finds at a point. -/
def found (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it leaves there. -/
def left (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem point_sound (c : Dev nD) (t : Fin cfg0.N) :
    found m c t ⊢ wp frame (wpE (defs₀ (F := F)) Variants.none c none) Set.univ (bodyAt0 t) (fun _ => left m c t) := by
  unfold found left bodyAt0
  simp only [before0, before1]
  rw [show (dats m 0 c).Φ t.succ = (dats m 0 c).Φ t.castSucc from rfl,
    show (dats m 0 c).owesAt () t.succ = (dats m 0 c).owesAt () t.castSucc from rfl, after0, after1, after2, after3]
  iintro ⟨HΦ, Ho, ⟨%d0, H0⟩, ⟨%d1, H1⟩, ⟨%d2, H2⟩, ⟨%d3, H3⟩⟩
  iapply (body_sound c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (point_sound m c t) rfl .rfl fun _ => .rfl

-- the launch theorem's implicit arguments are found only if plain definitions in a type may be unfolded
set_option backward.isDefEq.respectTransparency.types false in
set_option maxHeartbeats 800000 in
/-- The run, and every counter of the machine at zero after it. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := array_eq m) (hΦ := fun _ _ => rfl)

/-- The run: the arrays of the launch, and every other buffer as the lines after the launch leave it. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument as it was, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (array_eq m) (run_main m ρ)) ((θ_run defs _ _).mono (fun _ h => h.2) (run_main_quiescent m ρ))

end Cert.Launch

end
-- ==== Proof.Choose.lean ====
/-
  SELECTION BY REPEATED MINIMA. A row `v` of extended reals over `Fin n` is emptied one entry at a time: the first position of
  its least entry is taken, and the entry there is replaced by `⊤`. `pick v k` is the position taken in round `k`. For a row
  of entries below `⊤` the positions are all different, they come in the order "smaller entry first, then smaller position",
  and no position left out precedes a taken one (`pick_before`). So they are a prefix of the stable sort of the row.

  `sortedFrom_eq_pick` states this for the row as a nearest-neighbour search sorts it: one position `s`, whose entry is the
  only least one, is sent to the end by a large addend, and the entries are negated and sorted downwards. The sort's `i`-th
  position is then the one taken in round `i + 1`.
-/
module

public import Idealize.ShloMosaic.PureOps.Ideal
public import Idealize.ShloMosaic.Lib.SortPrefix

@[expose] public section

noncomputable section

namespace Cert.Choose

open Idealize.ShloMosaic

variable {n : ℕ}

/-- Position `p` precedes position `q`: its entry is smaller, or the entries are equal and `p` is the smaller position. -/
def Precedes (v : Fin n → EReal) (p q : Fin n) : Prop := v p < v q ∨ (v p = v q ∧ p < q)

/-- Some position precedes every other one. -/
theorem exists_first [NeZero n] (v : Fin n → EReal) : ∃ p, ∀ q, q ≠ p → Precedes v p q := by
  obtain ⟨p, -, hp⟩ := Finset.exists_min_image (Finset.univ : Finset (Fin n)) (fun p => toLex (v p, p)) ⟨0, Finset.mem_univ _⟩
  refine ⟨p, fun q hq => ?_⟩
  rcases (Prod.Lex.toLex_le_toLex.mp (hp q (Finset.mem_univ _))) with h | ⟨h, h'⟩
  · exact Or.inl h
  · exact Or.inr ⟨h, lt_of_le_of_ne h' (Ne.symm hq)⟩

/-- The first position of a row's least entry. -/
def first [NeZero n] (v : Fin n → EReal) : Fin n := (exists_first v).choose

theorem first_precedes [NeZero n] (v : Fin n → EReal) (q : Fin n) (h : q ≠ first v) : Precedes v (first v) q :=
  (exists_first v).choose_spec q h

/-- The entry at the first position is least. -/
theorem first_le [NeZero n] (v : Fin n → EReal) (q : Fin n) : v (first v) ≤ v q := by
  by_cases h : q = first v
  · rw [h]
  · rcases first_precedes v q h with h | ⟨h, -⟩
    · exact h.le
    · exact h.le

/-- The least entry, as a running minimum from `⊤` computes it. -/
theorem fold_min_eq [NeZero n] (v : Fin n → EReal) : Finset.univ.fold min ⊤ v = v (first v) := by
  apply le_antisymm
  · exact (Finset.le_fold_min (s := Finset.univ) (f := v) (b := ⊤) _).mp le_rfl |>.2 _ (Finset.mem_univ _)
  · exact (Finset.le_fold_min _).mpr ⟨le_top, fun q _ => first_le v q⟩

/-- Its first position, as a running minimum computes it: over the positions of least entries, a number above all
positions standing in for the others. -/
theorem fold_min_place [NeZero n] (v : Fin n → EReal) (big : EReal) (hbig : ((n : ℝ) : EReal) ≤ big) :
    Finset.univ.fold min ⊤ (fun j : Fin n => if v j = v (first v) then (((j : ℕ) : ℝ) : EReal) else big)
      = (((first v : ℕ) : ℝ) : EReal) := by
  apply le_antisymm
  · have := (Finset.le_fold_min (s := Finset.univ) (b := ⊤)
      (f := fun j : Fin n => if v j = v (first v) then (((j : ℕ) : ℝ) : EReal) else big) _).mp le_rfl |>.2 (first v) (Finset.mem_univ _)
    simpa using this
  · refine (Finset.le_fold_min _).mpr ⟨le_top, fun q _ => ?_⟩
    by_cases hv : v q = v (first v)
    · rw [if_pos hv]
      by_cases h : q = first v
      · rw [h]
      · rcases first_precedes v q h with h' | ⟨-, h'⟩
        · exact absurd hv (ne_of_gt h')
        · exact EReal.coe_le_coe_iff.mpr (Nat.cast_le.mpr (le_of_lt h'))
    · rw [if_neg hv]
      exact le_trans (EReal.coe_le_coe_iff.mpr (Nat.cast_le.mpr (first v).isLt.le)) hbig

/-- One round: the entry at the first position becomes `⊤`. -/
def strike [NeZero n] (v : Fin n → EReal) : Fin n → EReal := fun j => if j = first v then ⊤ else v j

/-- The row after `k` rounds. -/
def after [NeZero n] (v : Fin n → EReal) : ℕ → Fin n → EReal
  | 0 => v
  | k + 1 => strike (after v k)

/-- The position taken in round `k`. -/
def pick [NeZero n] (v : Fin n → EReal) (k : ℕ) : Fin n := first (after v k)

/-- The row after `k` rounds: the taken entries are `⊤`, the others as they were. -/
theorem after_eq [NeZero n] (v : Fin n → EReal) (k : ℕ) (j : Fin n) :
    after v k j = if ∃ i, i < k ∧ pick v i = j then ⊤ else v j := by
  induction k with
  | zero => simp [after]
  | succ k ih =>
    show (if j = first (after v k) then ⊤ else after v k j) = _
    by_cases h : j = first (after v k)
    · rw [if_pos h, if_pos ⟨k, Nat.lt_succ_self k, h.symm⟩]
    · rw [if_neg h, ih]
      refine if_congr ⟨fun ⟨i, hi, e⟩ => ⟨i, Nat.lt_succ_of_lt hi, e⟩, fun ⟨i, hi, e⟩ => ⟨i, ?_, e⟩⟩ rfl rfl
      rcases Nat.lt_succ_iff_lt_or_eq.mp hi with hi | rfl
      · exact hi
      · exact absurd e.symm h

theorem after_of_not_taken [NeZero n] (v : Fin n → EReal) (k : ℕ) (j : Fin n) (h : ∀ i, i < k → pick v i ≠ j) :
    after v k j = v j := by
  rw [after_eq, if_neg]
  rintro ⟨i, hi, e⟩
  exact h i hi e

/-- While positions remain, a round takes one that no earlier round took. -/
theorem pick_ne [NeZero n] (v : Fin n → EReal) (hv : ∀ j, v j < ⊤) {k : ℕ} (hk : k < n) {i : ℕ} (hi : i < k) :
    pick v i ≠ pick v k := by
  intro e
  obtain ⟨q, -, hq⟩ : ∃ q ∈ (Finset.univ : Finset (Fin n)), q ∉ (Finset.range k).image (pick v) := by
    refine Finset.exists_mem_notMem_of_card_lt_card (lt_of_le_of_lt Finset.card_image_le ?_)
    simpa using hk
  have hq' : after v k q = v q := after_of_not_taken v k q fun i hi e =>
    hq (Finset.mem_image.mpr ⟨i, Finset.mem_range.mpr hi, e⟩)
  have h1 : after v k (pick v k) ≤ after v k q := first_le _ _
  rw [hq', after_eq, if_pos ⟨i, hi, e⟩] at h1
  exact absurd h1 (not_le.mpr (hv q))

/-- The entry a round takes is the row's own. -/
theorem after_pick [NeZero n] (v : Fin n → EReal) (hv : ∀ j, v j < ⊤) {k : ℕ} (hk : k < n) :
    after v k (pick v k) = v (pick v k) :=
  after_of_not_taken v k _ fun _ hi => pick_ne v hv hk hi

/-- The position a round takes precedes every position not taken so far. -/
theorem pick_before [NeZero n] (v : Fin n → EReal) (hv : ∀ j, v j < ⊤) {k : ℕ} (hk : k < n) (p : Fin n)
    (hp : ∀ i, i ≤ k → pick v i ≠ p) : Precedes v (pick v k) p := by
  have h := first_precedes (after v k) p (fun e => hp k le_rfl e.symm)
  have e1 : after v k p = v p := after_of_not_taken v k p fun i hi => hp i hi.le
  have e2 : after v k (first (after v k)) = v (pick v k) := after_pick v hv hk
  rcases h with h | ⟨h, h'⟩
  · left; rw [← e1, ← e2]; exact h
  · right; exact ⟨by rw [← e1, ← e2]; exact h, h'⟩

/-- A position whose entry is below all others is taken first. -/
theorem pick_zero [NeZero n] (v : Fin n → EReal) (s : Fin n) (hs : ∀ j, j ≠ s → v s < v j) : pick v 0 = s := by
  by_contra h
  exact absurd (hs _ h) (not_lt.mpr (first_le v s))

/-- A stable sort by one comparison is the stable sort by that comparison and then the position. -/
theorem stableSort_then_position (B : Fin n → Fin n → Bool) (E : Fin n → Fin n → Bool) (l : List (Fin n))
    (hl : l.Pairwise (· < ·)) :
    stableSort B l = stableSort (fun p q => B p q || (E p q && decide (p < q))) l := by
  induction l with
  | nil => rfl
  | cons a l ih =>
    rw [List.pairwise_cons] at hl
    unfold stableSort
    rw [← ih hl.2]
    refine insertBefore_congr _ _ _ _ fun b hb => ?_
    have hab : a < b := hl.1 b ((perm_stableSort _ l).mem_iff.mp hb)
    simp [not_lt.mpr hab.le]

/-- THE SORT OF A ROW WITH ONE POSITION SENT TO THE END. The row `v` has its only least entry at `s`; `w` is the negated row
with `v s + big` for `v s`, where `v s + big` is above every entry. The stable sort of `w` downwards has at place `i` the
position that round `i + 1` of the selection takes. -/
theorem sortedFrom_eq_pick [NeZero n] (v w : Fin n → EReal) (s : Fin n) (hv : ∀ j, v j < ⊤) (hs : ∀ j, j ≠ s → v s < v j)
    (hw : ∀ j, j ≠ s → w j = -(v j)) (hend : ∀ j, j ≠ s → w s < -(v j)) {k : ℕ} (hk : k < n) (i : Fin k) :
    sortedFrom (fun p q => FloatOps.cmpfTotal (F := Ideal) (φ := .f32) .gt (w p) (w q) == 1#1) (i.castLE hk.le) = pick v (i + 1) := by
  have h0 := pick_zero v s hs
  have hne : ∀ i : ℕ, i < k → pick v (i + 1) ≠ s := fun i hi e =>
    pick_ne v hv (k := i + 1) (by omega) (Nat.succ_pos i) (h0.trans e.symm)
  have hB : (fun p q => FloatOps.cmpfTotal (F := Ideal) (φ := .f32) .gt (w p) (w q) == 1#1) = fun p q => decide (w q < w p) := by
    funext p q
    show (BitVec.ofBool (decide (w q < w p)) == 1#1) = _
    by_cases h : w q < w p <;> simp [h]
  rw [hB]
  have hT : StrictTotalBefore fun p q : Fin n => decide (w q < w p) || (decide (w p = w q) && decide (p < q)) :=
    StrictTotalBefore.of_key_then_position (fun a b : EReal => decide (b < a)) w (fun a => by simp)
      (fun a b c hab hbc => by simp only [decide_eq_true_eq] at *; exact hbc.trans hab)
      (fun a b => by simp only [decide_eq_true_eq]; rcases lt_trichotomy a b with h | h | h <;> simp [h])
  have hsort : sortedFrom (fun p q => decide (w q < w p)) (i.castLE hk.le)
      = sortedFrom (fun p q : Fin n => decide (w q < w p) || (decide (w p = w q) && decide (p < q))) (i.castLE hk.le) := by
    have e := stableSort_then_position (fun p q : Fin n => decide (w q < w p)) (fun p q => decide (w p = w q)) (List.finRange n)
      (List.pairwise_lt_finRange n)
    simp only [sortedFrom, sortPositions]
    simp only [List.get_eq_getElem, e]
    rfl
  rw [hsort]
  -- of two positions other than `s`, the one that precedes comes first in the sort
  have key : ∀ p q : Fin n, p ≠ s → Precedes v p q →
      (decide (w p < w q) || (decide (w q = w p) && decide (q < p))) = false := by
    intro p q hp h
    have hwp : w p = -(v p) := hw p hp
    by_cases hq : q = s
    · have h' := hend p hp
      rw [hq]
      rw [← hwp] at h'
      simp [not_lt.mpr h'.le, h'.ne]
    · rw [hw q hq, hwp]
      rcases h with h | ⟨h, h'⟩
      · have h2 : -(v q) < -(v p) := EReal.neg_lt_neg_iff.mpr h
        simp [not_lt.mpr h2.le, h2.ne]
      · rw [h]; simp [not_lt.mpr h'.le]
  refine hT.sortedFrom_eq_of_prefix hk.le (fun i : Fin k => pick v (i + 1)) ?_ ?_ ?_ i
  · intro a b hab
    rcases lt_trichotomy (a : ℕ) b with h | h | h
    · exact absurd hab (pick_ne v hv (k := b + 1) (by omega) (by omega))
    · exact Fin.ext h
    · exact absurd hab.symm (pick_ne v hv (k := a + 1) (by omega) (by omega))
  · intro a b hab
    have hab' : (a : ℕ) < b := hab
    exact key _ _ (hne a a.isLt) (pick_before v hv (by omega) _ fun i hi =>
      pick_ne v hv (k := b + 1) (by omega) (by omega))
  · intro a p hp
    by_cases hps : p = s
    · have h' := hend _ (hne a a.isLt)
      rw [← hw _ (hne a a.isLt)] at h'
      simp only [hps]
      simp [not_lt.mpr h'.le, h'.ne]
    · refine key _ _ (hne a a.isLt) (pick_before v hv (by omega) _ fun i hi => ?_)
      rcases i with _ | i
      · rw [h0]; exact Ne.symm hps
      · exact hp ⟨i, by omega⟩

end Cert.Choose

end
-- ==== Proof.Distance.lean ====
/-
  SQUARED DISTANCES. `sqDist q p` is the clamped `|q|² + |p|² − 2 q·p` over the extended reals, and `row X b i` lists it from
  point `i` of cloud `b` to every point of the cloud. In a cloud whose coordinates are at most 10^4 in absolute value and whose
  different points have `1e-12 ≤ |q|² + |p|² − 2 q·p`, a row is 0 at its own point, at least 1e-12 and below 1e10 elsewhere.
-/
module

public import Idealize.ShloMosaic.PureOps.Ideal
public import Idealize.ShloMosaic.Lib.Pointwise

@[expose] public section

noncomputable section

namespace Cert.Distance

open Idealize.ShloMosaic

/-- `|q|² + |p|² − 2 q·p`, of two points given by their coordinates. -/
def square (q p : Fin 3 → EReal) : EReal :=
  (∑ k, q k * q k) + (∑ k, p k * p k) - Ideal.ofBits .f32 0x40000000#32 * ∑ k, q k * p k

/-- The squared distance as the programs compute it: cut off below at 0. -/
def sqDist (q p : Fin 3 → EReal) : EReal := max (square q p) 0

/-- A batch of eight clouds of 4096 points. -/
abbrev Clouds : Type := FVec Ideal ⟨3, ![8, 4096, 3]⟩ .f32

/-- The squared distances from point `i` of cloud `b` to the points of the cloud. -/
def row (X : Clouds) (b : Fin 8) (i : Fin 4096) : Fin 4096 → EReal :=
  fun j => sqDist (fun k => X (ix3 b i k)) (fun k => X (ix3 b j k))

/-- The pattern of 2. -/
theorem ofBits_two : Ideal.ofBits .f32 0x40000000#32 = ((2 : ℝ) : EReal) := by
  simp [Ideal.ofBits, Ideal.ieee, -EReal.coe_mul]; norm_num

/-- The pattern of 10^4. -/
theorem ofBits_tenThousand : Ideal.ofBits .f32 0x461C4000#32 = ((10000 : ℝ) : EReal) := by
  simp [Ideal.ofBits, Ideal.ieee, -EReal.coe_mul]; norm_num

/-- The pattern of 10^10. -/
theorem ofBits_far : Ideal.ofBits .f32 0x501502F9#32 = ((10000000000 : ℝ) : EReal) := by
  simp [Ideal.ofBits, Ideal.ieee, -EReal.coe_mul]; norm_num

/-- The float 1e-12 is positive. -/
theorem tiny_pos : 0 < Ideal.ofBits .f32 0x2B8CBCCC#32 := by
  have h : Ideal.ofBits .f32 0x2B8CBCCC#32 = ((9223372 * 2 ^ (-63 : ℤ) : ℝ) : EReal) := by
    simp [Ideal.ofBits, Ideal.ieee, -EReal.coe_mul]
  rw [h]
  exact_mod_cast (by positivity : (0 : ℝ) < 9223372 * 2 ^ (-63 : ℤ))

/-- Over real coordinates the square is the real one. -/
theorem square_coe (a b : Fin 3 → ℝ) :
    square (fun k => (a k : EReal)) (fun k => (b k : EReal)) = ((∑ k, a k * a k + ∑ k, b k * b k - 2 * ∑ k, a k * b k : ℝ) : EReal) := by
  unfold square
  rw [ofBits_two]
  simp only [Fin.sum_univ_three]
  norm_cast

/-- Two numbers of points are equal words exactly when they are the same point. -/
theorem same_word (i j : Fin 4096) : IntOp.cmpi .eq (IntOp.addi (BitVec.ofNat 32 i) 0#32) (BitVec.ofNat 32 j) = BitVec.ofBool (decide (i = j)) := by
  show BitVec.ofBool (BitVec.ofNat 32 i + 0#32 == BitVec.ofNat 32 j) = _
  congr 1
  rw [BitVec.add_zero, Bool.beq_eq_decide_eq, decide_eq_decide, Fin.ext_iff]
  refine ⟨fun e => ?_, fun e => by rw [e]⟩
  have := congrArg BitVec.toNat e
  simp only [BitVec.toNat_ofNat] at this
  have := i.isLt; have := j.isLt
  omega

/-- What the search asks of a batch of clouds. -/
structure Separated (X : Clouds) : Prop where
  /-- No coordinate is larger than 10^4. -/
  inside : ∀ b i k, max (X (ix3 b i k)) (-X (ix3 b i k)) ≤ Ideal.ofBits .f32 0x461C4000#32
  /-- Different points are at least 1e-12 apart, in the square of the distance. -/
  apart : ∀ b i j, i ≠ j → Ideal.ofBits .f32 0x2B8CBCCC#32 ≤ square (fun k => X (ix3 b i k)) (fun k => X (ix3 b j k))

variable {X : Clouds} (h : Separated X)
include h

/-- The coordinates are real numbers of absolute value at most 10^4. -/
theorem Separated.real (b : Fin 8) (i : Fin 4096) : ∃ a : Fin 3 → ℝ, (fun k => X (ix3 b i k)) = (fun k => (a k : EReal)) ∧ ∀ k, |a k| ≤ 10000 := by
  have hx : ∀ k, ∃ r : ℝ, X (ix3 b i k) = (r : EReal) ∧ |r| ≤ 10000 := by
    intro k
    have hk := h.inside b i k
    rw [ofBits_tenThousand, max_le_iff] at hk
    generalize X (ix3 b i k) = x at hk
    induction x using EReal.rec with
    | bot => exact absurd hk.2 (by simp)
    | top => exact absurd hk.1 (by simp)
    | coe r =>
      refine ⟨r, rfl, abs_le'.mpr ⟨EReal.coe_le_coe_iff.mp hk.1, ?_⟩⟩
      have := hk.2
      rw [← EReal.coe_neg] at this
      exact EReal.coe_le_coe_iff.mp this
  choose a ha hb using hx
  exact ⟨a, funext ha, hb⟩

/-- A row is 0 at its own point. -/
theorem Separated.row_self (b : Fin 8) (i : Fin 4096) : row X b i i = 0 := by
  obtain ⟨a, ha, -⟩ := h.real b i
  unfold row sqDist
  rw [ha, square_coe, show (∑ k, a k * a k + ∑ k, a k * a k - 2 * ∑ k, a k * a k : ℝ) = 0 by ring]
  simp

/-- Elsewhere it is at least 1e-12, -/
theorem Separated.row_other (b : Fin 8) (i j : Fin 4096) (hij : j ≠ i) : Ideal.ofBits .f32 0x2B8CBCCC#32 ≤ row X b i j :=
  (h.apart b i j hij.symm).trans (le_max_left _ _)

/-- and it is below 10^10 everywhere. -/
theorem Separated.row_lt (b : Fin 8) (i j : Fin 4096) : row X b i j < ((10000000000 : ℝ) : EReal) := by
  obtain ⟨a, ha, ha'⟩ := h.real b i
  obtain ⟨c, hc, hc'⟩ := h.real b j
  unfold row sqDist
  rw [ha, hc, square_coe, max_lt_iff, EReal.coe_lt_coe_iff]
  refine ⟨?_, by exact_mod_cast (by norm_num : (0 : ℝ) < 10000000000)⟩
  have e : (∑ k, a k * a k + ∑ k, c k * c k - 2 * ∑ k, a k * c k : ℝ) = ∑ k, (a k - c k) ^ 2 := by
    simp only [Fin.sum_univ_three]; ring
  have hk : ∀ k, (a k - c k) ^ 2 ≤ 400000000 := fun k => by
    have h1 := abs_le.mp (ha' k)
    have h2 := abs_le.mp (hc' k)
    nlinarith
  rw [e, Fin.sum_univ_three]
  have := hk 0; have := hk 1; have := hk 2
  linarith

end Cert.Distance

end
-- ==== Proof.Block.lean ====
/-
  THE BODY'S TABLES READ AT AN INDEX, over the extended reals. The table of squared distances at row `r` and column `j` is
  `Distance.sqDist` of the two points. A round's least entry, column and struck table are, row by row, those of the selection
  in Proof/Choose.lean, whichever branch the conditional takes: the branch for ties takes the first column by a running
  minimum of words, and the other one is taken only where every row holds its least entry once, so that the sum of the
  columns is that column and striking all of them strikes one.
-/
module

public import proofs.«01_k».proof.Proof.Rounds
public import proofs.«01_k».proof.Proof.Choose
public import proofs.«01_k».proof.Proof.Distance
public import Idealize.ShloMosaic.Lib.Pointwise

@[expose] public section

set_option maxRecDepth 16384

noncomputable section

namespace Cert.Block

open Idealize.ShloMosaic Idealize.ShloMosaic.TcCoe Cert.KernelIdeal Cert.KernelIdeal.Gen Cert.Rounds Cert.Choose Cert.Distance

/-- The table of squared distances, at row `r` and column `j`. -/
theorem dist_apply (q : Vec Ideal S1x256x3 .f32) (p : Vec Ideal S1x3x4096 .f32) (r : Fin 256) (j : Fin 4096) :
    k0_pay3 q p (ix2 r j) = sqDist (fun k => q (ix3 0 r k)) (fun k => p (ix3 0 k j)) := by
  pointwise [k0_pay3, sqDist]
  rfl

/-- The pattern of the largest float is `⊤`. -/
theorem ofBits_top : Ideal.ofBits .f32 0x7F800000#32 = ⊤ := by
  simp [Ideal.ofBits, Ideal.ieee]

/-- The pattern of zero is 0. -/
theorem ofBits_zero : Scalar.ofBits (F := Ideal) .f32 0x00000000#32 = (0 : EReal) := by
  show Ideal.ofBits .f32 0x00000000#32 = 0
  simp [Ideal.ofBits, Ideal.ieee]

/-- The comparison of two numbers, the first of which is the greater. -/
theorem cmpf_of_lt (x y : EReal) (h : y < x) : Scalar.cmpf (F := Ideal) (φ := .f32) .ogt x y = 1#1 := by
  show BitVec.ofBool (decide (y < x)) = 1#1
  rw [decide_eq_true h]
  rfl

/-- The pattern of 1.5 is below 2. -/
theorem ofBits_oneHalf : Ideal.ofBits .f32 0x3FC00000#32 < 1 + 1 := by
  have : Ideal.ofBits .f32 0x3FC00000#32 = (((3 / 2 : ℝ)) : EReal) := by
    simp [Ideal.ofBits, Ideal.ieee, -EReal.coe_mul]; norm_num
  rw [this, show (1 : EReal) + 1 = (((1 + 1 : ℝ)) : EReal) from rfl, EReal.coe_lt_coe_iff]
  norm_num

/-- A column's number as a word stands for that number. -/
theorem sitofp_number (j : Fin 4096) : FloatOps.sitofp (F := Ideal) .f32 (BitVec.ofNat 32 j) = (((j : ℕ) : ℝ) : EReal) := by
  have h : (BitVec.ofNat 32 (j : ℕ)).toInt = ((j : ℕ) : ℤ) := by
    have := j.isLt
    rw [BitVec.toInt_ofNat', Int.bmod_def]; omega
  show (((BitVec.ofNat 32 (j : ℕ)).toInt : ℝ) : EReal) = _
  rw [h]; norm_cast

/-! ## Words -/

/-- The smaller of two numbers, as words. -/
theorem minsi_number (a b : ℕ) (ha : a < 2 ^ 31) (hb : b < 2 ^ 31) :
    IntOp.minsi (BitVec.ofNat 32 a) (BitVec.ofNat 32 b) = BitVec.ofNat 32 (min a b) := by
  have h : ∀ n : ℕ, n < 2 ^ 31 → (BitVec.ofNat 32 n).toInt = (n : ℤ) := fun n hn => by
    rw [BitVec.toInt_ofNat', Int.bmod_def]; omega
  unfold IntOp.minsi
  rw [BitVec.slt, h a ha, h b hb]
  by_cases hab : a < b
  · rw [if_pos (by simpa using hab), min_eq_left hab.le]
  · rw [if_neg (by simpa using hab), min_eq_right (not_lt.mp hab)]

/-- A running minimum of words is the running minimum of their numbers. -/
theorem fold_minsi {ι : Type} (s : Finset ι) (g : ι → ℕ) (b : ℕ) (hb : b < 2 ^ 31) (hg : ∀ i, g i < 2 ^ 31) :
    s.fold IntOp.minsi (BitVec.ofNat 32 b) (fun i => BitVec.ofNat 32 (g i)) = BitVec.ofNat 32 (s.fold min b g)
      ∧ s.fold min b g < 2 ^ 31 := by
  classical
  induction s using Finset.induction_on with
  | empty => exact ⟨rfl, hb⟩
  | insert a s ha ih =>
    rw [Finset.fold_insert ha, Finset.fold_insert ha, ih.1]
    exact ⟨minsi_number _ _ (hg a) ih.2, lt_of_le_of_lt (min_le_left _ _) (hg a)⟩

/-- The first position of a row's least entry, as a running minimum of words computes it. -/
theorem fold_minsi_place (v : Fin 4096 → EReal) :
    Finset.univ.fold IntOp.minsi 2147483647#32 (fun j : Fin 4096 => if v j = v (first v) then BitVec.ofNat 32 j else 4096#32)
      = BitVec.ofNat 32 (first v) := by
  have e : (fun j : Fin 4096 => if v j = v (first v) then BitVec.ofNat 32 j else 4096#32)
      = fun j => BitVec.ofNat 32 (if v j = v (first v) then (j : ℕ) else 4096) := by
    funext j; split <;> rfl
  rw [e]
  refine (fold_minsi Finset.univ _ 2147483647 (by norm_num) fun j => ?_).1.trans (congrArg _ (le_antisymm ?_ ?_))
  · split
    · exact lt_trans j.isLt (by norm_num)
    · norm_num
  · refine (Finset.fold_min_le _).mpr (Or.inr ⟨first v, Finset.mem_univ _, ?_⟩)
    rw [if_pos rfl]
  · refine (Finset.le_fold_min _).mpr ⟨le_trans (first v).isLt.le (by norm_num), fun q _ => ?_⟩
    by_cases hv : v q = v (first v)
    · rw [if_pos hv]
      by_cases h : q = first v
      · rw [h]
      · rcases first_precedes v q h with h' | ⟨-, h'⟩
        · exact absurd hv (ne_of_gt h')
        · exact le_of_lt h'
    · rw [if_neg hv]
      exact (first v).isLt.le

/-! ## One round -/

variable (v : FVec Ideal S256x4096 .f32) (r : Fin 256)

/-- A row of a table. -/
abbrev rowOf (j : Fin 4096) : EReal := v (ix2 r j)

/-- A round's least entry is the entry at the first position of the row's least entry. -/
theorem least_apply : least v (ix2 r 0) = rowOf v r (first (rowOf v r)) := by
  pointwise [least]
  rw [ofBits_top]
  exact fold_min_eq (rowOf v r)

/-- Whether a column holds a row's least entry. -/
theorem atLeast_apply (j : Fin 4096) : atLeast v (ix2 r j) = BitVec.ofBool (decide (rowOf v r j = rowOf v r (first (rowOf v r)))) := by
  rw [← least_apply]
  pointwise [atLeast]

/-- The same, as a number. -/
theorem ones_apply (j : Fin 4096) : ones v (ix2 r j) = if rowOf v r j = rowOf v r (first (rowOf v r)) then 1 else 0 := by
  unfold ones
  have e : ∀ e : IVec S256x4096 1, (sitofp .f32 (extui 32 e natLt_1_32) : FVec Ideal S256x4096 .f32) (ix2 r j)
      = FloatOps.sitofp .f32 (BitVec.setWidth 32 (e (ix2 r j))) := fun e => by pointwise
  rw [e, atLeast_apply]
  by_cases h : rowOf v r j = rowOf v r (first (rowOf v r))
  · rw [if_pos h, decide_eq_true h]
    show (((1 : ℤ) : ℝ) : EReal) = 1
    simp
  · rw [if_neg h, decide_eq_false h]
    show (((0 : ℤ) : ℝ) : EReal) = 0
    simp

/-- The table that the columns are counted with: the column, and 1. -/
theorem selector_apply (j : Fin 4096) : k0_pay4 (F := Ideal) (ix2 j 0) = (((j : ℕ) : ℝ) : EReal) ∧ k0_pay4 (F := Ideal) (ix2 j 1) = 1 := by
  constructor
  · pointwise [k0_pay4]
    exact sitofp_number j
  · pointwise [k0_pay4]
    rfl

theorem sums_apply (k : Fin 2) : sums v (ix2 r k) = ∑ j, ones v (ix2 r j) * k0_pay4 (F := Ideal) (ix2 j k) := by
  pointwise [sums]

/-- The sum of the columns that hold the least entry. -/
theorem columnSum_apply :
    columnSum v (ix2 r 0) = ∑ j : Fin 4096, (if rowOf v r j = rowOf v r (first (rowOf v r)) then 1 else 0) * (((j : ℕ) : ℝ) : EReal) := by
  have e : columnSum v (ix2 r 0) = sums v (ix2 r 0) := by pointwise [columnSum]
  rw [e, sums_apply]
  exact Finset.sum_congr rfl fun j _ => by rw [ones_apply, (selector_apply j).1]

/-- Their count. -/
theorem count_apply : counts v (ix2 r 0) = ∑ j : Fin 4096, (if rowOf v r j = rowOf v r (first (rowOf v r)) then (1 : EReal) else 0) := by
  have e : counts v (ix2 r 0) = sums v (ix2 r 1) := by pointwise [counts]
  rw [e, sums_apply]
  exact Finset.sum_congr rfl fun j _ => by rw [ones_apply, (selector_apply j).2, mul_one]

/-- Where the conditional does not find a tie, no row counts more than one and a half columns. -/
theorem count_le (h : ¬ tied v = 1#1) : counts v (ix2 r 0) ≤ Ideal.ofBits .f32 0x3FC00000#32 := by
  by_contra hc
  apply h
  have hm : marks v (ix2 r 0) = 1 := by
    have e : ∀ c : FVec Ideal S256x1 .f32,
        select (cmpf .ogt c (k0_pay68 (F := Ideal))) (broadcast S256x1 (Scalar.ofBits (F := Ideal) .f32 0x3F800000#32))
            (broadcast S256x1 (Scalar.ofBits .f32 0x00000000#32)) (ix2 r 0)
          = if Ideal.ofBits .f32 0x3FC00000#32 < c (ix2 r 0) then 1 else 0 := fun c => by pointwise [k0_pay68]
    unfold marks several
    rw [e, if_pos (not_le.mp hc)]
  have hk : (0 : EReal) < mark v := by
    have e : mark v = Finset.fold max (Ideal.ofBits .f32 0xFF800000#32) (fun x : Fin 256 × Fin 1 => marks v (ix2 x.1 0)) Finset.univ := by
      pointwise [mark]
    rw [e]
    refine lt_of_lt_of_le zero_lt_one ((Finset.le_fold_max _).mpr (Or.inr ⟨(r, 0), Finset.mem_univ _, ?_⟩))
    exact hm.ge
  have hw : Scalar.cmpf .ogt (mark v) (Scalar.ofBits .f32 0x00000000#32) = 1#1 := cmpf_of_lt _ _ (ofBits_zero.trans_lt hk)
  unfold tied
  rw [hw]
  rfl

/-- So there every row holds its least entry once. -/
theorem once (h : ¬ tied v = 1#1) (j : Fin 4096) : rowOf v r j = rowOf v r (first (rowOf v r)) ↔ j = first (rowOf v r) := by
  refine ⟨fun hj => ?_, fun e => by rw [e]⟩
  by_contra hne
  refine absurd (count_le v r h) (not_le.mpr (lt_of_lt_of_le ofBits_oneHalf ?_))
  rw [count_apply]
  refine le_trans (le_of_eq ?_) (Finset.sum_le_sum_of_subset_of_nonneg (Finset.subset_univ {j, first (rowOf v r)}) fun i _ _ => ?_)
  · rw [Finset.sum_pair hne, if_pos hj, if_pos rfl]
  · split
    · exact zero_le_one
    · exact le_rfl

/-- The first column as a word. -/
theorem firstWord_apply : firstWord v (ix2 r 0) = BitVec.ofNat 32 (first (rowOf v r)) := by
  have e : ∀ e : IVec S256x4096 1,
      shapeCast S256x1 (multiReductionI .minsi [1] S256 (select e (iota .tc S256x4096 32 [1] iota_S256x4096_d1_w32) (broadcast S256x4096 4096#32))
          2147483647#32 reduces_S256x4096_S256 rfl) shapeCasts_S256_S256x1 (ix2 r 0)
        = Finset.univ.fold IntOp.minsi 2147483647#32 (fun x : Fin 4096 => Scalar.select (e (ix2 r x)) (BitVec.ofNat 32 x) 4096#32) :=
    fun e => by pointwise
  refine (e (atLeast v)).trans (Eq.trans (congrArg (fun f => Finset.univ.fold IntOp.minsi 2147483647#32 f) (funext fun j => ?_))
    (fold_minsi_place (rowOf v r)))
  rw [atLeast_apply]
  by_cases h : rowOf v r j = rowOf v r (first (rowOf v r))
  · rw [if_pos h, decide_eq_true h]; rfl
  · rw [if_neg h, decide_eq_false h]; rfl

/-- A round's column is the first position of the row's least entry. -/
theorem place_apply : place v (ix2 r 0) = (((first (rowOf v r) : ℕ) : ℝ) : EReal) := by
  unfold place
  by_cases h : tied v = 1#1
  · rw [if_pos h]
    have e : ∀ w : IVec S256x1 32, (sitofp .f32 w : FVec Ideal S256x1 .f32) (ix2 r 0) = FloatOps.sitofp .f32 (w (ix2 r 0)) :=
      fun w => by pointwise
    rw [e, firstWord_apply, sitofp_number]
  · rw [if_neg h, columnSum_apply, Finset.sum_eq_single (first (rowOf v r))]
    · rw [if_pos rfl, one_mul]
    · intro j _ hj
      rw [if_neg (mt (once v r h j).mp hj), zero_mul]
    · exact fun hn => absurd (Finset.mem_univ _) hn

/-- A round's struck table is, row by row, the row with its first least entry struck. -/
theorem struck_apply (j : Fin 4096) : struck v (ix2 r j) = strike (rowOf v r) j := by
  unfold struck
  by_cases h : tied v = 1#1
  · rw [if_pos h]
    have e : ∀ w : IVec S256x1 32,
        select (cmpi .eq (iota .tc S256x4096 32 [1] iota_S256x4096_d1_w32) (broadcastTo S256x4096 w broadcasts_S256x1_S256x4096))
            (farTable (F := Ideal)) v (ix2 r j)
          = Scalar.select (IntOp.cmpi .eq (BitVec.ofNat 32 j) (w (ix2 r 0))) (Ideal.ofBits .f32 0x7F800000#32) (v (ix2 r j)) := fun w => by pointwise
    refine (e (firstWord v)).trans ?_
    rw [firstWord_apply, ofBits_top]
    unfold strike
    by_cases hj : j = first (rowOf v r)
    · rw [if_pos hj, ← hj]
      simp [IntOp.cmpi, Scalar.select]
    · have hw : BitVec.ofNat 32 (j : ℕ) ≠ BitVec.ofNat 32 (first (rowOf v r) : ℕ) := fun e => hj (Fin.ext (by
        have := congrArg BitVec.toNat e
        simp only [BitVec.toNat_ofNat] at this
        omega))
      rw [if_neg hj]
      unfold IntOp.cmpi
      simp only [beq_eq_false_iff_ne.mpr hw]
      rfl
  · rw [if_neg h]
    have e : ∀ w : IVec S256x4096 1,
        select w (farTable (F := Ideal)) v (ix2 r j) = Scalar.select (w (ix2 r j)) (Ideal.ofBits .f32 0x7F800000#32) (v (ix2 r j)) :=
      fun w => by pointwise
    refine (e (atLeast v)).trans ?_
    rw [atLeast_apply, ofBits_top]
    unfold strike
    by_cases hj : j = first (rowOf v r)
    · rw [if_pos hj, decide_eq_true ((once v r h j).mpr hj)]; rfl
    · rw [if_neg hj, decide_eq_false (mt (once v r h j).mp hj)]; rfl

/-! ## All rounds -/

/-- The table after `k` rounds, row by row. -/
theorem table_apply (d : FVec Ideal S256x4096 .f32) (r : Fin 256) (k : ℕ) : rowOf (table d k) r = after (rowOf d r) k := by
  induction k with
  | zero => rfl
  | succ k ih =>
    funext j
    show struck (table d k) (ix2 r j) = strike (after _ k) j
    rw [struck_apply, ih]

/-- Round `k`'s least entry in row `r`. -/
theorem least_table (d : FVec Ideal S256x4096 .f32) (r : Fin 256) (k : ℕ) :
    least (table d k) (ix2 r 0) = after (rowOf d r) k (pick (rowOf d r) k) := by
  rw [least_apply, table_apply]; rfl

/-- Round `k`'s column in row `r`. -/
theorem place_table (d : FVec Ideal S256x4096 .f32) (r : Fin 256) (k : ℕ) :
    place (table d k) (ix2 r 0) = (((pick (rowOf d r) k : ℕ) : ℝ) : EReal) := by
  rw [place_apply, table_apply]; rfl

/-- The columns side by side, at row `r` and column `k`. -/
theorem beside_apply (f : ℕ → FVec Ideal S256x1 .f32) (r : Fin 256) (k : Fin 21) : beside f (ix2 r k) = f k (ix2 r 0) := by
  refine concatenate_ofFn_unit_apply (1 : Fin S256x21.rank) (fun n : Fin 21 => f n) _ rfl rfl (ix2 r k) k rfl (ix2 r 0) ?_
  intro b hb
  fin_cases b
  · rfl
  · exact absurd rfl hb

end Cert.Block

end
-- ==== Proof.Cells.lean ====
/- The two blocks that one grid point stores, cell by cell, as functions of the least entries and places of the rounds.
   Column `k < 20` of the float block holds the weight of the `k`-th neighbour, column 20 the local scale and the others 0.
   Column `k < 20` of the integer block holds the number of the `k`-th neighbour and the others 0. -/
module

public import proofs.«01_k».proof.Proof.Rounds
public import Idealize.ShloMosaic.Lib.Pointwise

@[expose] public section

set_option maxRecDepth 16384

noncomputable section

namespace Cert.Cells

open Idealize.ShloMosaic Cert.KernelIdeal Cert.KernelIdeal.Gen Cert.Rounds

/-- The distance to a neighbour from the squared distance, which is kept above the float 1e-12. -/
def gap (x : EReal) : EReal := Ideal.sqrt (max x (Ideal.ofBits .f32 0x2B8CBCCC#32))

/-- The weight of a neighbour at squared distance `x` when the last neighbour stands at squared distance `y`. -/
def weight (x y : EReal) : EReal :=
  Ideal.exp (Ideal.div (0 - gap x * gap x)
    (Ideal.ofBits .f32 0x40000000#32 * (gap y + Ideal.ofBits .f32 0x358637BD#32) * (gap y + Ideal.ofBits .f32 0x358637BD#32)))

/-- A row of the float block, from the row of the rounds' least entries. -/
def floatsAt (a : Fin 21 → EReal) (k : Fin 32) : EReal :=
  if h : (k : ℕ) < 20 then weight (a ⟨1 + k, by omega⟩) (a 20) else if (k : ℕ) - 20 < 1 then gap (a 20) * gap (a 20) else 0

/-- A row of the integer block, from the row of the rounds' places. -/
def intsAt (a : Fin 21 → EReal) (k : Fin 32) : BitVec 32 :=
  if h : (k : ℕ) < 20 then FloatOps.fptosi (F := Ideal) (φ := .f32) 32 (a ⟨1 + k, by omega⟩) else 0#32

theorem floats_apply (x : FVec Ideal S256x21 .f32) (r : Fin 256) (k : Fin 32) :
    floatBlock x (ix3 0 r k) = floatsAt (fun j => x (ix2 r j)) k := by
  pointwise [floatBlock, k0_pay1, scale, exponent, width, lastGap, gaps]
  unfold floatsAt weight gap
  split
  · rfl
  · split
    · next h =>
      have e : ∀ h', (⟨1 + (19 + ((k : ℕ) - 20)), h'⟩ : Fin 21) = 20 := fun h' => Fin.ext (by show 1 + (19 + ((k : ℕ) - 20)) = 20; omega)
      simp only [e]
    · rfl

theorem ints_apply (x : FVec Ideal S256x21 .f32) (r : Fin 256) (k : Fin 32) :
    k0_pay2 (fptosi 32 x) (ix3 0 r k) = intsAt (fun j => x (ix2 r j)) k := by
  pointwise [k0_pay2]
  rfl

/-- A column's number, written as a float, converts to that number as a word. -/
theorem fptosi_number (n : Fin 4096) :
    FloatOps.fptosi (F := Ideal) (φ := .f32) 32 (((n : ℕ) : ℝ) : EReal) = BitVec.ofNat 32 n := by
  show BitVec.ofInt 32 (max _ (min _ (if (0 : ℝ) ≤ ((n : ℕ) : ℝ) then ⌊((n : ℕ) : ℝ)⌋ else _))) = _
  rw [if_pos (Nat.cast_nonneg _), Int.floor_natCast, min_eq_right (by have := n.isLt; norm_num; omega),
    max_eq_right (by norm_num)]
  exact BitVec.ofInt_natCast ..

end Cert.Cells

end
-- ==== Proof.Arrays.lean ====
/- The two result arrays of the launch. -/
module

public import proofs.«01_k».proof.Proof.Launch
public import proofs.«01_k».proof.Proof.Block
public import proofs.«01_k».proof.Proof.Cells
public import Idealize.ShloMosaic.Lib.Pipeline.ValueKit
public import Idealize.ShloMosaic.Lib.StableHlo.Run

@[expose] public section

set_option maxRecDepth 16384

noncomputable section

namespace Cert.Arrays

open Idealize.ShloMosaic Idealize.ShloMosaic.TcCoe Cert.KernelIdeal Cert.KernelIdeal.Gen Cert.Choose Cert.Cells Cert.Block Cert.Rounds Cert.Distance Cert.Launch

variable (m : (ℓ : Loc nD τ sig) → Buf (Elt Ideal) ℓ) (c : Dev nD)

/-- The float array of the launch. -/
def floats (X : FVec Ideal S8x4096x3 .f32) : FVec Ideal S8x4096x32 .f32 :=
  fun i => floatsAt (fun k => after (row X (i 0) (i 1)) k (pick (row X (i 0) (i 1)) k)) (i 2)

/-- The integer array of the launch. -/
def ints (X : FVec Ideal S8x4096x3 .f32) : IVec S8x4096x32 32 :=
  fun i => intsAt (fun k => (((pick (row X (i 0) (i 1)) k : ℕ) : ℝ) : EReal)) (i 2)

theorem idx : ∀ t : Fin grid0.N, win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, (grid0.coords t 1).val, 0] := by decide +kernel

/-- The transposed argument, which the second window stages. -/
theorem V_main_v0 : V m c main_v0 = transpose S8x3x4096 [0, 2, 1] (m ((c : Thread nD τ).loc main_arg0)) transposes_S8x4096x3_S8x3x4096_0_2_1 := by
  unfold V V0
  simp only [hostOps0, List.flatten_cons, List.flatten_nil, List.append_nil]
  after_results_simp <;> rfl

/-- The cloud of grid point `t`. -/
def cloud (t : Fin grid0.N) : Fin 8 := ⟨(grid0.coords t 0).val, (grid0.coords t 0).isLt⟩

/-- The point of the cloud in row `r` of grid point `t`. -/
def point (t : Fin grid0.N) (r : Fin 256) : Fin 4096 :=
  ⟨(grid0.coords t 1).val * 256 + r, by have : (grid0.coords t 1).val < 16 := (grid0.coords t 1).isLt; omega⟩

theorem queries (t : Fin grid0.N) (r : Fin 256) (k : Fin 3) :
    iblk m c 0 t (ix3 0 r k) = (m ((c : Thread nD τ).loc main_arg0) : FVec Ideal S8x4096x3 .f32) (ix3 (cloud t) (point t r) k) := by
  have e : (win0_0.blk t).view.emb (ix3 0 r k) = ix3 (cloud t) (point t r) k := by
    blk_ext [cloud, point, idx t]
  blk_simp [iblk, V_main_arg0 m c]
  rw [e]

theorem points (t : Fin grid0.N) (j : Fin 4096) (k : Fin 3) :
    iblk m c 1 t (ix3 0 k j) = (m ((c : Thread nD τ).loc main_arg0) : FVec Ideal S8x4096x3 .f32) (ix3 (cloud t) j k) := by
  have e : (win0_1.blk t).view.emb (ix3 0 k j) = ix3 (cloud t) k j := by
    blk_ext [cloud, idx t]
  blk_simp [iblk, V_main_v0 m c]
  rw [e]
  pointwise

theorem block_row (t : Fin grid0.N) (r : Fin 256) :
    rowOf (k0_pay3 (iblk m c 0 t) (iblk m c 1 t)) r = row (m ((c : Thread nD τ).loc main_arg0)) (cloud t) (point t r) := by
  funext j
  refine (dist_apply _ _ r j).trans ?_
  unfold row
  simp only [queries, points]

theorem floats_arr : (dats m 0 c).arrAt 2 cfg0.N = floats (m ((c : Thread nD τ).loc main_arg0)) := by
  refine (dats m 0 c).arrAt_eq_of_covers 2 _ (by decide +kernel) fun t hf y => ?_
  blk_simp
  rw [after2]
  unfold storedFloats distanceTable
  frame_out
  obtain ⟨z, r, k, rfl⟩ : ∃ (z : Fin 1) (r : Fin 256) (k : Fin 32), y = ix3 z r k := ⟨y 0, y 1, y 2, by funext a; fin_cases a <;> rfl⟩
  obtain rfl : z = 0 := Subsingleton.elim _ _
  have e : ((View.whole main_v1_0).slice (win0_2.rect t)).emb (ix3 0 r k) = ix3 (cloud t) (point t r) k := by
    blk_ext [cloud, point, idx t]
  rw [e, floats_apply]
  unfold leasts
  simp only [beside_apply, least_table, block_row]
  rfl

theorem ints_arr : (dats m 0 c).arrAt 3 cfg0.N = ints (m ((c : Thread nD τ).loc main_arg0)) := by
  refine (dats m 0 c).arrAt_eq_of_covers 3 _ (by decide +kernel) fun t hf y => ?_
  blk_simp
  rw [after3]
  unfold storedWords distanceTable
  frame_out
  obtain ⟨z, r, k, rfl⟩ : ∃ (z : Fin 1) (r : Fin 256) (k : Fin 32), y = ix3 z r k := ⟨y 0, y 1, y 2, by funext a; fin_cases a <;> rfl⟩
  obtain rfl : z = 0 := Subsingleton.elim _ _
  have e : ((View.whole main_v1_1).slice (win0_3.rect t)).emb (ix3 0 r k) = ix3 (cloud t) (point t r) k := by
    blk_ext [cloud, point, idx t]
  unfold numbers
  rw [e, ints_apply]
  simp only [beside_apply, place_table, block_row]
  rfl

end Cert.Arrays

end
-- ==== Proof.Results.lean ====
/- The kernel's three results after the run, as functions of the launch's two arrays. -/
module

public import proofs.«01_k».proof.Proof.Arrays

@[expose] public section

set_option maxRecDepth 16384

noncomputable section

namespace Cert.Results

open Idealize.ShloMosaic Idealize.ShloMosaic.TcCoe Idealize.ShloMosaic.StableHlo Idealize.SL.Sem Cert.KernelIdeal Cert.KernelIdeal.Gen Cert.Arrays
open Cert.Launch (dats run_main array_eq)

variable (m : (ℓ : Loc nD τ sig) → Buf (Elt Ideal) ℓ) (ρ : Dev nD → PrngReg) (c : Dev nD)

/-- The weights: the first twenty columns of the float array, flattened per cloud. -/
def weights (a : FVec Ideal S8x4096x32 .f32) : FVec Ideal S8x81920 .f32 :=
  shapeCast S8x81920 (extractStridedSlice S8x4096x20 ![0, 0, 0] a slices_S8x4096x32_S8x4096x20_0_0_0) shapeCasts_S8x4096x20_S8x81920

/-- The local scales: column 20 of the float array. -/
def scales (a : FVec Ideal S8x4096x32 .f32) : FVec Ideal S8x4096 .f32 :=
  shapeCast S8x4096 (extractStridedSlice S8x4096x1 ![0, 0, 20] a slices_S8x4096x32_S8x4096x1_0_0_20) shapeCasts_S8x4096x1_S8x4096

/-- Two lists of numbers per cloud, one above the other. -/
def paired (a b : IVec S8x1x81920 32) : IVec S8x2x81920 32 :=
  concatenate S8x2x81920 1 [⟨S8x1x81920, a⟩, ⟨S8x1x81920, b⟩] concatenates_S8x1x81920_S8x1x81920_S8x2x81920_d1

/-- The edges: above, every point's number twenty times; below, the first twenty columns of the integer array. -/
def edges (a : IVec S8x4096x32 32) : IVec S8x2x81920 32 :=
  paired (broadcastInDim S8x1x81920 ![0, 2] bcast_S8x81920_S8x1x81920_0_2 (shapeCast S8x81920
        (broadcastInDim S8x4096x20 ![0, 1, 2] bcast_S1x4096x1_S8x4096x20_0_1_2
          (broadcastInDim S1x4096x1 ![1] bcast_S4096_S1x4096x1_1 (iotaInDim S4096 32 0))) shapeCasts_S8x4096x20_S8x81920))
    (broadcastInDim S8x1x81920 ![0, 2] bcast_S8x81920_S8x1x81920_0_2 (shapeCast S8x81920
        (extractStridedSlice S8x4096x20 ![0, 0, 0] a slices_S8x4096x32_S8x4096x20_0_0_0) shapeCasts_S8x4096x20_S8x81920))

/-- The buffers as the launch leaves them, before the host's last lines. -/
abbrev left : Valuation τ sig (Elt Ideal) :=
  Pipeline.withArrays (cfgs 0).spec c (V0 m c) fun w => (dats m 0 c).arrAt w (cfgs 0).N

theorem left_floats : left m c (Proc.devRef .tc main_v1_0) = floats (m ((c : Thread nD τ).loc main_arg0)) :=
  (Pipeline.withArrays_arr _ launch0.win.arr_inj c (V0 m c) _ 2).trans (floats_arr m c)

theorem left_ints : left m c (Proc.devRef .tc main_v1_1) = ints (m ((c : Thread nD τ).loc main_arg0)) :=
  (Pipeline.withArrays_arr _ launch0.win.arr_inj c (V0 m c) _ 3).trans (ints_arr m c)

theorem tail_weights : Pipeline.afterTail₀ cfgs (dats m) 0 (V0 m) [hostOps1] c main_v3 = weights (floats (m ((c : Thread nD τ).loc main_arg0))) := by
  rw [← left_floats m c]
  show after (List.flatten [hostOps1]) (left m c) _ = _
  generalize left m c = W
  simp only [hostOps1, List.flatten_cons, List.flatten_nil, List.append_nil]
  after_results_simp <;> rfl

theorem tail_scales : Pipeline.afterTail₀ cfgs (dats m) 0 (V0 m) [hostOps1] c main_v5 = scales (floats (m ((c : Thread nD τ).loc main_arg0))) := by
  rw [← left_floats m c]
  show after (List.flatten [hostOps1]) (left m c) _ = _
  generalize left m c = W
  simp only [hostOps1, List.flatten_cons, List.flatten_nil, List.append_nil]
  after_results_simp <;> rfl

theorem tail_edges : Pipeline.afterTail₀ cfgs (dats m) 0 (V0 m) [hostOps1] c main_v14 = edges (ints (m ((c : Thread nD τ).loc main_arg0))) := by
  rw [← left_ints m c]
  show after (List.flatten [hostOps1]) (left m c) _ = _
  generalize left m c = W
  simp only [hostOps1, List.flatten_cons, List.flatten_nil, List.append_nil]
  rw [show ((fun a b => concatenate S8x2x81920 1 [⟨S8x1x81920, a⟩, ⟨S8x1x81920, b⟩] concatenates_S8x1x81920_S8x1x81920_S8x2x81920_d1) :
    IVec S8x1x81920 32 → IVec S8x1x81920 32 → IVec S8x2x81920 32) = paired from rfl]
  after_results_simp <;> rfl

/-- The run: the three results, and the argument as it was. -/
theorem run : θ_run defs (onTc (τ := τ) (main (F := Ideal))) ⟨m, fun _ => 0, ρ⟩ fun r => ∀ c : Dev nD,
      r.2.mem ((c : Thread nD τ).loc main_v14) = edges (ints (m ((c : Thread nD τ).loc main_arg0)))
      ∧ r.2.mem ((c : Thread nD τ).loc main_v3) = weights (floats (m ((c : Thread nD τ).loc main_arg0)))
      ∧ r.2.mem ((c : Thread nD τ).loc main_v5) = scales (floats (m ((c : Thread nD τ).loc main_arg0)))
      ∧ r.2.mem ((c : Thread nD τ).loc main_arg0) = m ((c : Thread nD τ).loc main_arg0) :=
  (θ_run defs _ _).mono (fun r h c =>
    ⟨((h c).2 main_v14 (by decide)).trans (tail_edges m c), ((h c).2 main_v3 (by decide)).trans (tail_weights m c),
      ((h c).2 main_v5 (by decide)).trans (tail_scales m c),
      ((h c).1 0).trans (((dats m 0 c).arrAt_in 0 rfl _).trans ((array_eq m c 0).trans (V_main_arg0 m c)))⟩)
    (run_main m ρ)

end Cert.Results

end
-- ==== Proof.TopK.lean ====
/- The twenty greatest entries of each row, read at an index: the value and the number at place `k` belong to the position
   that the stable descending sort of the row puts at place `k`. -/
module

public import proofs.«01_k».proof.Proof.Gen.ReferenceIdeal
public import Idealize.ShloMosaic.Lib.Pointwise

@[expose] public section

set_option maxRecDepth 16384

noncomputable section

namespace Cert.TopK

open Idealize.ShloMosaic Cert.ReferenceIdeal Cert.ReferenceIdeal.Gen

variable (x : FVec Ideal S8x4096x4096 .f32) (h : S8x4096x4096.Slices (fun _ => 0) S8x4096x20)

/-- The position that the stable descending sort of row `(b, i)` puts at place `k`. -/
def placed (v : Fin 4096 → EReal) (k : Fin 20) : Fin 4096 :=
  sortedFrom (fun p q => FloatOps.cmpfTotal (F := Ideal) (φ := .f32) .gt (v p) (v q) == 1#1) (k.castLE (by decide))

theorem along_ix3 (b : Fin 8) (i k p : Fin 4096) (hd : 2 < S8x4096x4096.rank) :
    Shape.Idx.along (s := S8x4096x4096) (ix3 b i k) ⟨2, hd⟩ p = ix3 b i p := by
  funext a
  fin_cases a <;> rfl

theorem slice_ix3 (b : Fin 8) (i : Fin 4096) (k : Fin 20) :
    (fun a => ⟨0 + (ix3 b i k (a.cast h.1.symm)).val, Nat.lt_of_lt_of_le (Nat.add_lt_add_left (ix3 b i k _).isLt _) (h.2 a)⟩ : S8x4096x4096.Idx)
      = ix3 b i (k.castLE (by decide)) := by
  funext a
  fin_cases a <;> exact Fin.ext (Nat.zero_add _)

/-- The sort along the last axis, at the fibre through row `(b, i)`, is the sort of that row. -/
theorem sorted_row (b : Fin 8) (i k' : Fin 4096) (k : Fin 20) (z : Fin 4096) (hz : (z : ℕ) = k) (hd : 2 < S8x4096x4096.rank) :
    sortedFrom (n := 4096) (fun p q => FloatOps.cmpfTotal (F := Ideal) (φ := .f32) .gt
        (x (Shape.Idx.along (s := S8x4096x4096) (ix3 b i k') ⟨2, hd⟩ p))
        (x (Shape.Idx.along (s := S8x4096x4096) (ix3 b i k') ⟨2, hd⟩ q)) == 1#1) z
      = placed (fun j => x (ix3 b i j)) k := by
  have hf : (fun p q : Fin 4096 => FloatOps.cmpfTotal (F := Ideal) (φ := .f32) .gt
        (x (Shape.Idx.along (s := S8x4096x4096) (ix3 b i k') ⟨2, hd⟩ p))
        (x (Shape.Idx.along (s := S8x4096x4096) (ix3 b i k') ⟨2, hd⟩ q)) == 1#1)
      = fun p q => FloatOps.cmpfTotal (F := Ideal) (φ := .f32) .gt (x (ix3 b i p)) (x (ix3 b i q)) == 1#1 := by
    funext p q
    rw [along_ix3, along_ix3]
  rw [hf]
  exact congrArg _ (Fin.ext hz)

/-- The value at place `k` of row `(b, i)`. -/
theorem topK_value (b : Fin 8) (i : Fin 4096) (k : Fin 20) :
    (Host.topK S8x4096x20 2 (FloatOps.cmpfTotal (F := Ideal) (φ := .f32) .gt) x h).1 (ix3 b i k)
      = x (ix3 b i (placed (fun j => x (ix3 b i j)) k)) := by
  unfold Host.topK Host.sort2 extractStridedSlice
  simp only [show 2 < S8x4096x4096.rank by decide, ↓reduceDIte]
  rw [slice_ix3 h]
  refine congrArg x ((along_ix3 b i _ _ (by decide)).trans (congrArg (fun p => ix3 b i p) ?_))
  exact sorted_row x b i _ k _ (Nat.zero_add _) _

/-- The number at place `k` of row `(b, i)`. -/
theorem topK_number (b : Fin 8) (i : Fin 4096) (k : Fin 20) :
    (Host.topK S8x4096x20 2 (FloatOps.cmpfTotal (F := Ideal) (φ := .f32) .gt) x h).2 (ix3 b i k)
      = BitVec.ofNat 32 (placed (fun j => x (ix3 b i j)) k : ℕ) := by
  unfold Host.topK Host.sort2 extractStridedSlice
  simp only [show 2 < S8x4096x4096.rank by decide, ↓reduceDIte]
  rw [slice_ix3 h]
  refine (congrArg (iotaInDim S8x4096x4096 32 ⟨2, by decide⟩) ((along_ix3 b i _ _ (by decide)).trans
    (congrArg (fun p => ix3 b i p) (sorted_row x b i _ k _ (Nat.zero_add _) _)))).trans ?_
  rfl

end Cert.TopK

end
-- ==== Proof.Reference.lean ====
/- The reference's run, its results built up from the scores that its search sorts, and those values read at an index. -/
module

public import proofs.«01_k».proof.Proof.Distance
public import proofs.«01_k».proof.Proof.TopK
public import proofs.«01_k».proof.Proof.Gen.ReferenceIdeal.Run

@[expose] public section

set_option maxRecDepth 16384

noncomputable section

namespace Cert.Reference

open Idealize.ShloMosaic Idealize.ShloMosaic.TcCoe Idealize.SL.Sem Cert.ReferenceIdeal Cert.ReferenceIdeal.Gen Cert.TopK Cert.Distance

/-- A scalar at every index of the table of pairs. -/
abbrev everywhere (w : BitVec 32) : FVec Ideal S8x4096x4096 .f32 :=
  broadcastInDim S8x4096x4096 ![] bcast_S_S8x4096x4096 (constant (F := Ideal) S_ .f32 w)

/-- The squared lengths of the points. -/
def lengths (X : FVec Ideal S8x4096x3 .f32) : FVec Ideal S8x4096 .f32 :=
  Host.reduceAdd (mulf X X) (constant S_ .f32 0x00000000#32) reducesTo_S8x4096x3_S8x4096_d2 h_S_

/-- The squared distances, cut off below at 0. -/
def squares (X : FVec Ideal S8x4096x3 .f32) : FVec Ideal S8x4096x4096 .f32 :=
  maximumf
    (subf
      (addf
        (broadcastInDim S8x4096x4096 ![0, 1, 2] bcast_S8x4096x1_S8x4096x4096_0_1_2
          (broadcastInDim S8x4096x1 ![0, 1] bcast_S8x4096_S8x4096x1_0_1 (lengths X)))
        (broadcastInDim S8x4096x4096 ![0, 1, 2] bcast_S8x1x4096_S8x4096x4096_0_1_2
          (broadcastInDim S8x1x4096 ![0, 2] bcast_S8x4096_S8x1x4096_0_2 (lengths X))))
      (mulf (everywhere 0x40000000#32)
        (Host.dotGeneral dot_S8x4096x3_S8x4096x3_S8x4096x4096_2_2_1_1_0_0 none X X)))
    (everywhere 0x00000000#32)

/-- The diagonal of a table of pairs, as ones among zeros. -/
def diagonal : FVec Ideal S4096x4096 .f32 :=
  uitofp .f32 (cmpi .eq (addi (iotaInDim S4096x4096 32 0) (broadcastInDim S4096x4096 ![] bcast_S_S4096x4096 (constantI S_ 32 0#32)))
    (iotaInDim S4096x4096 32 1))

/-- The scores that the search sorts: the negated squared distances, the diagonal moved down by 1e10. -/
def scores (X : FVec Ideal S8x4096x3 .f32) : FVec Ideal S8x4096x4096 .f32 :=
  Host.negf (addf (squares X)
    (broadcastInDim S8x4096x4096 ![0, 1, 2] bcast_S1x4096x4096_S8x4096x4096_0_1_2
      (broadcastInDim S1x4096x4096 ![1, 2] bcast_S4096x4096_S1x4096x4096_1_2
        (mulf diagonal (broadcastInDim S4096x4096 ![] bcast_S_S4096x4096 (constant S_ .f32 0x501502F9#32))))))

/-- The twenty greatest scores of every point, and whose they are. -/
def best (X : FVec Ideal S8x4096x3 .f32) : FVec Ideal S8x4096x20 .f32 × IVec S8x4096x20 32 :=
  Host.topK S8x4096x20 2 (FloatOps.cmpfTotal .gt) (scores X) sliceFits_S8x4096x4096_S8x4096x20

/-- The distances to the twenty neighbours. -/
def distances (X : FVec Ideal S8x4096x3 .f32) : FVec Ideal S8x4096x20 .f32 :=
  Host.sqrt (maximumf (Host.negf (best X).1) (broadcastInDim S8x4096x20 ![] bcast_S_S8x4096x20 (constant S_ .f32 0x00000000#32)))

/-- The distance to the last of them. -/
def lastDistance (X : FVec Ideal S8x4096x3 .f32) : FVec Ideal S8x4096 .f32 :=
  shapeCast S8x4096 (extractStridedSlice S8x4096x1 ![0, 0, 19] (distances X) slices_S8x4096x20_S8x4096x1_0_0_19) shapeCasts_S8x4096x1_S8x4096

/-- A float at every point. -/
abbrev atPoints (w : BitVec 32) : FVec Ideal S8x4096 .f32 :=
  broadcastInDim S8x4096 ![] bcast_S_S8x4096 (constant (F := Ideal) S_ .f32 w)

/-- The local scales. -/
def scales (X : FVec Ideal S8x4096x3 .f32) : FVec Ideal S8x4096 .f32 :=
  mulf (mulf (atPoints 0x3F800000#32) (lastDistance X)) (lastDistance X)

/-- The widths of the Gaussians. -/
def widths (X : FVec Ideal S8x4096x3 .f32) : FVec Ideal S8x4096x1 .f32 :=
  broadcastInDim S8x4096x1 ![0, 1] bcast_S8x4096_S8x4096x1_0_1
    (addf (mulf (atPoints 0x3F800000#32) (lastDistance X)) (atPoints 0x358637BD#32))

/-- The weights of the edges, point by point. -/
def weights (X : FVec Ideal S8x4096x3 .f32) : FVec Ideal S8x4096x20 .f32 :=
  Host.exp (Host.divf (Host.negf (mulf (distances X) (distances X)))
    (broadcastInDim S8x4096x20 ![0, 1, 2] bcast_S8x4096x1_S8x4096x20_0_1_2
      (mulf (broadcastInDim S8x4096x1 ![] bcast_S_S8x4096x1 (constant S_ .f32 0x40000000#32)) (mulf (widths X) (widths X)))))

/-- Two lists of numbers per cloud, one above the other. -/
def paired (a b : IVec S8x1x81920 32) : IVec S8x2x81920 32 :=
  concatenate S8x2x81920 1 [⟨S8x1x81920, a⟩, ⟨S8x1x81920, b⟩] concatenates_S8x1x81920_S8x1x81920_S8x2x81920_d1

/-- The edges: above, every point's number twenty times; below, the numbers of its neighbours. -/
def edges (X : FVec Ideal S8x4096x3 .f32) : IVec S8x2x81920 32 :=
  paired
    (broadcastInDim S8x1x81920 ![0, 2] bcast_S8x81920_S8x1x81920_0_2 (shapeCast S8x81920
      (broadcastInDim S8x4096x20 ![0, 1, 2] bcast_S1x4096x1_S8x4096x20_0_1_2
        (broadcastInDim S1x4096x1 ![1] bcast_S4096_S1x4096x1_1 (iotaInDim S4096 32 0))) shapeCasts_S8x4096x20_S8x81920))
    (broadcastInDim S8x1x81920 ![0, 2] bcast_S8x81920_S8x1x81920_0_2 (shapeCast S8x81920 (best X).2 shapeCasts_S8x4096x20_S8x81920))

/-- The run: the three results, and the argument as it was. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v55) = edges (m ((c : Thread nD τ).loc main_arg0))
      ∧ r.2.mem ((c : Thread nD τ).loc main_v47) = shapeCast S8x81920 (weights (m ((c : Thread nD τ).loc main_arg0))) shapeCasts_S8x4096x20_S8x81920
      ∧ r.2.mem ((c : Thread nD τ).loc main_v37) = scales (m ((c : Thread nD τ).loc main_arg0))
      ∧ r.2.mem ((c : Thread nD τ).loc main_arg0) = m ((c : Thread nD τ).loc main_arg0) :=
  (θ_run defs _ _).mono (fun r h c => ⟨(h c).1.trans rfl, (h c).2.1.trans rfl, (h c).2.2.1.trans rfl, (h c).2.2.2⟩)
    (Cert.ReferenceIdeal.Value.run m ρ)

variable (X : FVec Ideal S8x4096x3 .f32)

/-- The squared distances, at a pair of points. -/
theorem squares_apply (b : Fin 8) (i j : Fin 4096) : squares X (ix3 b i j) = row X b i j := by
  pointwise [squares, lengths]
  rfl

/-- The scores, at a pair of points. -/
theorem scores_apply (b : Fin 8) (i j : Fin 4096) :
    scores X (ix3 b i j)
      = -(squares X (ix3 b i j)
          + FloatOps.uitofp .f32 (IntOp.cmpi .eq (IntOp.addi (BitVec.ofNat 32 i) 0#32) (BitVec.ofNat 32 j)) * Ideal.ofBits .f32 0x501502F9#32) := by
  pointwise [scores, diagonal]

/-- Off the diagonal the score is the negated squared distance. -/
theorem scores_other (b : Fin 8) (i j : Fin 4096) (h : j ≠ i) : scores X (ix3 b i j) = -row X b i j := by
  rw [scores_apply, squares_apply, same_word, decide_eq_false h.symm]
  have : FloatOps.uitofp (F := Ideal) .f32 (BitVec.ofBool false) = (0 : EReal) := by
    show (((0 : ℕ) : ℝ) : EReal) = 0
    simp
  rw [this, zero_mul, add_zero]

/-- On the diagonal it is lower by 10^10. -/
theorem scores_self (b : Fin 8) (i : Fin 4096) : scores X (ix3 b i i) = -(row X b i i + Ideal.ofBits .f32 0x501502F9#32) := by
  rw [scores_apply, squares_apply, same_word, decide_eq_true rfl]
  have : FloatOps.uitofp (F := Ideal) .f32 (BitVec.ofBool true) = (1 : EReal) := by
    show (((1 : ℕ) : ℝ) : EReal) = 1
    simp
  rw [this, one_mul]

/-- The point that the search puts at place `k` of the neighbours of point `i`. -/
def neighbour (b : Fin 8) (i : Fin 4096) (k : Fin 20) : Fin 4096 := placed (fun j => scores X (ix3 b i j)) k

/-- Its number. -/
theorem best_number (b : Fin 8) (i : Fin 4096) (k : Fin 20) : (best X).2 (ix3 b i k) = BitVec.ofNat 32 (neighbour X b i k) :=
  topK_number _ _ b i k

/-- Its distance. -/
theorem distances_apply (b : Fin 8) (i : Fin 4096) (k : Fin 20) :
    distances X (ix3 b i k) = Ideal.sqrt (max (-scores X (ix3 b i (neighbour X b i k))) 0) := by
  pointwise [distances, best, topK_value, neighbour]

/-- The scale of a point is the squared distance to its last neighbour. -/
theorem scales_apply (b : Fin 8) (i : Fin 4096) : scales X (ix2 b i) = distances X (ix3 b i 19) * distances X (ix3 b i 19) := by
  pointwise [scales, lastDistance]

/-- The weight of an edge is a Gaussian of its length, as wide as the distance to the last neighbour. -/
theorem weights_apply (b : Fin 8) (i : Fin 4096) (k : Fin 20) :
    weights X (ix3 b i k)
      = Ideal.exp (Ideal.div (-(distances X (ix3 b i k) * distances X (ix3 b i k)))
          (Ideal.ofBits .f32 0x40000000#32
            * ((distances X (ix3 b i 19) + Ideal.ofBits .f32 0x358637BD#32) * (distances X (ix3 b i 19) + Ideal.ofBits .f32 0x358637BD#32)))) := by
  pointwise [weights, widths, lastDistance]

end Cert.Reference

end
-- ==== Proof.Agree.lean ====
/- On separated clouds the kernel and the reference have the same results. -/
module

public import proofs.«01_k».proof.Proof.Results
public import proofs.«01_k».proof.Proof.Reference

@[expose] public section

set_option maxRecDepth 16384

noncomputable section

namespace Cert.Agree

open Idealize.ShloMosaic Cert.Choose Cert.Cells Cert.Arrays Cert.Distance Cert.Reference Cert.TopK

variable {X : Clouds} (h : Separated X) (b : Fin 8) (i : Fin 4096)
include h

/-- A row is nowhere infinite, -/
theorem row_finite (j : Fin 4096) : row X b i j < ⊤ := (h.row_lt b i j).trans (EReal.coe_lt_top _)

/-- and least at its own point only. -/
theorem row_least (j : Fin 4096) (hj : j ≠ i) : row X b i i < row X b i j := by
  rw [h.row_self]
  exact tiny_pos.trans_le (h.row_other b i j hj)

/-- The point's own score is below all others. -/
theorem score_last (j : Fin 4096) (_ : j ≠ i) : scores X (ix3 b i i) < -row X b i j := by
  rw [scores_self, h.row_self, zero_add, ofBits_far, EReal.neg_lt_neg_iff]
  exact h.row_lt b i j

/-- The neighbour that the sort puts at place `k` is the point that round `k + 1` of the search takes. -/
theorem neighbour_eq (k : Fin 20) : neighbour X b i k = pick (row X b i) (k + 1) := by
  have e := sortedFrom_eq_pick (k := 20) (row X b i) (fun j => scores X (ix3 b i j)) i (row_finite h b i) (row_least h b i)
    (fun j hj => scores_other X b i j hj) (score_last h b i) (by norm_num) k
  unfold neighbour placed
  exact e

/-- It is not the point itself. -/
theorem pick_other (k : Fin 20) : pick (row X b i) (k + 1) ≠ i := fun e =>
  pick_ne (row X b i) (row_finite h b i) (k := k + 1) (by omega) (Nat.succ_pos k) ((pick_zero _ i (row_least h b i)).trans e.symm)

/-- The kernel's distance to a neighbour, cut off at 1e-12, is the reference's, cut off at 0. -/
theorem gap_eq (k : Fin 20) : gap (after (row X b i) (k + 1) (pick (row X b i) (k + 1))) = distances X (ix3 b i k) := by
  have hn := pick_other h b i k
  have ht := h.row_other b i _ hn
  rw [distances_apply, neighbour_eq h, scores_other X b i _ hn, neg_neg, after_pick _ (row_finite h b i) (by omega), gap,
    max_eq_left ht, max_eq_left (tiny_pos.le.trans ht)]

/-- The same for the last neighbour. -/
theorem gap_last : gap (after (row X b i) 20 (pick (row X b i) 20)) = distances X (ix3 b i 19) := by
  have e := gap_eq h b i 19
  rwa [show ((19 : Fin 20) : ℕ) + 1 = 20 from rfl] at e

/-- The weights, edge by edge. -/
theorem weight_eq (k : Fin 20) :
    weight (after (row X b i) (1 + k) (pick (row X b i) (1 + k))) (after (row X b i) 20 (pick (row X b i) 20))
      = weights X (ix3 b i k) := by
  rw [weights_apply, weight, Nat.add_comm 1, gap_eq h b i k, gap_last h, zero_sub, mul_assoc]

/-- The numbers of the neighbours: the first twenty columns of the integer array. -/
theorem numbers_eq :
    extractStridedSlice KernelIdeal.S8x4096x20 ![0, 0, 0] (ints X) KernelIdeal.Gen.slices_S8x4096x32_S8x4096x20_0_0_0 = (best X).2 := by
  funext j
  obtain ⟨b, i, k, rfl⟩ : ∃ (b : Fin 8) (i : Fin 4096) (k : Fin 20), j = ix3 b i k := ⟨j 0, j 1, j 2, eq_ix3 j⟩
  refine Eq.trans ?_ (best_number X b i k).symm
  rw [neighbour_eq h, ← fptosi_number]
  pointwise [ints, intsAt]
  rw [Nat.add_comm]

/-- The first twenty columns of the float array are the weights. -/
theorem columns_eq :
    extractStridedSlice KernelIdeal.S8x4096x20 ![0, 0, 0] (floats X) KernelIdeal.Gen.slices_S8x4096x32_S8x4096x20_0_0_0 = weights X := by
  funext j
  obtain ⟨b, i, k, rfl⟩ : ∃ (b : Fin 8) (i : Fin 4096) (k : Fin 20), j = ix3 b i k := ⟨j 0, j 1, j 2, eq_ix3 j⟩
  rw [← weight_eq h]
  pointwise [floats, floatsAt]

/-- The first result. -/
theorem edges_eq : Results.edges (ints X) = edges X := by
  unfold Results.edges edges
  rw [numbers_eq h]
  rfl

/-- The second. -/
theorem weights_eq : Results.weights (floats X) = shapeCast ReferenceIdeal.S8x81920 (weights X) ReferenceIdeal.Gen.shapeCasts_S8x4096x20_S8x81920 := by
  unfold Results.weights
  rw [columns_eq h]

/-- The third. -/
theorem scales_eq : Results.scales (floats X) = scales X := by
  funext j
  obtain ⟨b, i, rfl⟩ : ∃ (b : Fin 8) (i : Fin 4096), j = ix2 b i := ⟨j 0, j 1, eq_ix2 j⟩
  rw [scales_apply, ← gap_last h]
  pointwise [Results.scales, floats, floatsAt]

end Cert.Agree

end
-- ==== Proof.Separated.lean ====
/- The claim's precondition, in the words of `Distance.Separated`. -/
module

public import proofs.«01_k».proof.Proof.Distance
public import proofs.«01_k».proof.Proof.Gen.Pre_separated

@[expose] public section

set_option maxRecDepth 16384

noncomputable section

namespace Cert.Separated

open Idealize.ShloMosaic Cert.Pre_separated Cert.Pre_separated.Facts Cert.Distance

variable (X : FVec Ideal S8x4096x3 .f32)

/-- The first condition, at a coordinate. -/
theorem inside_apply (b : Fin 8) (i : Fin 4096) (k : Fin 3) :
    (fn (F := Ideal) X).1 (ix3 b i k)
      = BitVec.ofBool (decide (max (X (ix3 b i k)) (-X (ix3 b i k)) ≤ Ideal.ofBits .f32 0x461C4000#32)) := by
  pointwise [fn, fn_part1]
  rfl

/-- The second, at a pair of points. -/
theorem apart_apply (b : Fin 8) (i j : Fin 4096) :
    (fn (F := Ideal) X).2 (ix3 b i j)
      = IntOp.ori (BitVec.ofBool (decide (Ideal.ofBits .f32 0x2B8CBCCC#32 ≤ square (fun k => X (ix3 b i k)) (fun k => X (ix3 b j k)))))
          (IntOp.cmpi .eq (IntOp.addi (BitVec.ofNat 32 i) 0#32) (BitVec.ofNat 32 j)) := by
  pointwise [fn, fn_part1]
  rfl

/-- Where both hold everywhere, the clouds are separated. -/
theorem separated_of (h1 : (fn (F := Ideal) X).1 = fun _ => 1#1) (h2 : (fn (F := Ideal) X).2 = fun _ => 1#1) : Separated X where
  inside b i k := by
    have h := (inside_apply X b i k).symm.trans (congrFun h1 _)
    by_contra hn
    rw [decide_eq_false hn] at h
    exact absurd h (by decide)
  apart b i j hij := by
    have h := (apart_apply X b i j).symm.trans (congrFun h2 _)
    by_contra hn
    rw [decide_eq_false hn, same_word, decide_eq_false hij] at h
    exact absurd h (by decide)

end Cert.Separated

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_separated
public import proofs.«01_k».proof.Proof.Gen.ReferenceIdeal.Run
public import proofs.«01_k».proof.Proof.Agree
public import proofs.«01_k».proof.Proof.Separated
public import Idealize.ShloMosaic.Adequacy
public import Idealize.ShloMosaic.Init
public import Idealize.ShloMosaic.Lib.Quiescent

@[expose] public section

set_option maxRecDepth 65536

noncomputable section

namespace Cert.Proof

open Idealize.ShloMosaic Idealize.SL.Sem Cert.Kernel

section Kernel

attribute [local instance] Cert.Kernel.Gen.facts Cert.KernelIdeal.Gen.facts

/-- The two programs have the same block program at their one label. -/
theorem table_eq : Cert.KernelIdeal.defs₀ (F := Bits) = Cert.Kernel.defs₀ (F := Bits) := by
  refine congrArg Defs.onTc (funext fun l => funext fun x => ?_)
  match l, x with
  | ⟨0, _⟩, _ => rfl

/-- So they have the same bodies. -/
theorem defs_eq : Cert.KernelIdeal.defs (F := Bits) = Cert.Kernel.defs (F := Bits) :=
  congrArg (Pipeline.defs (Cert.KernelIdeal.pcfgs (F := Bits))) table_eq

/-- The kernel runs, leaves its argument alone and ends with every counter at zero: the run of the idealized program, whose text is
the same, at the words. -/
theorem frame_kernel : Cert.quiescent_Kernel := fun m g _ =>
  (defs_eq ▸ Cert.Launch.frame (F := Bits) m g : θ_run (Cert.Kernel.defs (F := Bits)) _ _ _)

end Kernel

/-- The reference runs, leaves its argument alone, and, having no semaphores, ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2.2.2, sem_eq_zero_of_no_sems rfl r.2⟩) (Cert.ReferenceIdeal.Value.run m g)

/-- The kernel and the reference, on separated clouds that they share, have the same results. -/
theorem same_results : algebraic_KernelIdeal_ReferenceIdeal_pre_separated (hKernelIdeal := Cert.KernelIdeal.Gen.facts)
    (hReferenceIdeal := Cert.ReferenceIdeal.Gen.facts) (hPre_separated := Cert.Pre_separated.Gen.facts) := by
  intro m g m' g' hpre hm
  refine ⟨fun c => Results.edges (Arrays.ints (m ((c.tc : Thread KernelIdeal.nD KernelIdeal.τ).loc KernelIdeal.main_arg0))),
    fun c => Results.weights (Arrays.floats (m ((c.tc : Thread KernelIdeal.nD KernelIdeal.τ).loc KernelIdeal.main_arg0))),
    fun c => Results.scales (Arrays.floats (m ((c.tc : Thread KernelIdeal.nD KernelIdeal.τ).loc KernelIdeal.main_arg0))),
    Results.run m g, (θ_run _ _ _).mono (fun r h c => ?_) (Reference.run m' g')⟩
  have hs := Separated.separated_of _ (hpre c).1 (hpre c).2
  obtain ⟨h0, h1, h2, h3⟩ := h c
  rw [hm c] at h0 h1 h2
  exact ⟨h0.trans (Agree.edges_eq hs).symm, h1.trans (Agree.weights_eq hs).symm, h2.trans (Agree.scales_eq hs).symm, h3⟩

/-- All that is claimed. -/
theorem claim : Cert.Claim := ⟨Cert.Kernel.Gen.facts, Cert.KernelIdeal.Gen.facts, Cert.ReferenceIdeal.Gen.facts, Cert.Pre_separated.Gen.facts,
  frame_kernel, fun m g _ => Cert.Launch.frame m g, fun m g _ => Cert.Launch.frame m g,
  fun m g _ => reference_frame m g, fun m g _ => reference_frame m g, trivial, same_results⟩

end Cert.Proof

end
